-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 1024]⟩ ⟨3, ![2, 512, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S512x512 : Shape := ⟨2, ![512, 512]⟩
abbrev S256x512 : Shape := ⟨2, ![256, 512]⟩
abbrev S48x512 : Shape := ⟨2, ![48, 512]⟩
abbrev S16 : Shape := ⟨1, ![16]⟩
abbrev S_ : Shape := ⟨0, ![]⟩
abbrev S1 : Shape := ⟨1, ![1]⟩
abbrev S16x512 : Shape := ⟨2, ![16, 512]⟩
abbrev S1x16x512 : Shape := ⟨3, ![1, 16, 512]⟩
abbrev S1x48x512 : Shape := ⟨3, ![1, 48, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x512x1024, .f32⟩
  | .hbm, ⟨1, _⟩ => ⟨S512x512, .f32⟩
  | .local _ .vmem, ⟨0, _⟩ => ⟨S1x512x1024, .f32⟩
  | .local _ .vmem, ⟨1, _⟩ => ⟨S512x512, .f32⟩
  | .local _ .vmem, ⟨2, _⟩ => ⟨S256x512, .f32⟩
  | .local _ .vmem, ⟨3, _⟩ => ⟨S48x512, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_9 : BitVec 32 := 2#32
  let v16 : BitVec 32 := Scalar.muli v2 c2_i32_9
  let v17 : BitVec 32 := Scalar.addi c0_i32 v16
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_10 : BitVec 32 := 1#32
  let v18 : BitVec 32 := Scalar.muli v6 c1_i32_10
  let v19 : BitVec 32 := Scalar.addi v17 v18
  v19.toNat
def k0_dev2 (d0 : Dev nD) : Nat :=
  let c0_i32_13 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_12 : BitVec 32 := 2#32
  let v20 : BitVec 32 := Scalar.muli v7 c2_i32_12
  let v21 : BitVec 32 := Scalar.addi c0_i32_13 v20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_14 : BitVec 32 := 1#32
  let v22 : BitVec 32 := Scalar.muli v5 c1_i32_14
  let v23 : BitVec 32 := Scalar.addi v21 v22
  v23.toNat
def k0_off1 (d0 : Dev nD) (c0_i32_16 : BitVec 32) : Fin 3 → Nat :=
  let c0_i32_17 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let v24 : BitVec 32 := Scalar.addi v8 c0_i32_16
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_6 v5
  let c512_i32_7 : BitVec 32 := 512#32
  let v14 : BitVec 32 := Scalar.muli v13 c512_i32_7
  ![0, v24.toNat, v14.toNat]
def k0_dev3 (d0 : Dev nD) : Nat :=
  let c0_i32_21 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_20 : BitVec 32 := 2#32
  let v25 : BitVec 32 := Scalar.muli v2 c2_i32_20
  let v26 : BitVec 32 := Scalar.addi c0_i32_21 v25
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_22 : BitVec 32 := 1#32
  let v27 : BitVec 32 := Scalar.muli v6 c1_i32_22
  let v28 : BitVec 32 := Scalar.addi v26 v27
  v28.toNat
def k0_dev4 (d0 : Dev nD) : Nat :=
  let c0_i32_29 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_28 : BitVec 32 := 2#32
  let v37 : BitVec 32 := Scalar.muli v2 c2_i32_28
  let v38 : BitVec 32 := Scalar.addi c0_i32_29 v37
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_30 : BitVec 32 := 1#32
  let v39 : BitVec 32 := Scalar.muli v6 c1_i32_30
  let v40 : BitVec 32 := Scalar.addi v38 v39
  v40.toNat
def k0_dev5 (d0 : Dev nD) : Nat :=
  let c0_i32_37 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_36 : BitVec 32 := 2#32
  let v49 : BitVec 32 := Scalar.muli v2 c2_i32_36
  let v50 : BitVec 32 := Scalar.addi c0_i32_37 v49
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_38 : BitVec 32 := 1#32
  let v51 : BitVec 32 := Scalar.muli v6 c1_i32_38
  let v52 : BitVec 32 := Scalar.addi v50 v51
  v52.toNat
def k0_dev6 (d0 : Dev nD) : Nat :=
  let c0_i32_44 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_43 : BitVec 32 := 2#32
  let v61 : BitVec 32 := Scalar.muli v2 c2_i32_43
  let v62 : BitVec 32 := Scalar.addi c0_i32_44 v61
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_45 : BitVec 32 := 1#32
  let v63 : BitVec 32 := Scalar.muli v6 c1_i32_45
  let v64 : BitVec 32 := Scalar.addi v62 v63
  v64.toNat
def k0_dev7 (d0 : Dev nD) : Nat :=
  let c0_i32_51 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_50 : BitVec 32 := 2#32
  let v73 : BitVec 32 := Scalar.muli v2 c2_i32_50
  let v74 : BitVec 32 := Scalar.addi c0_i32_51 v73
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_52 : BitVec 32 := 1#32
  let v75 : BitVec 32 := Scalar.muli v6 c1_i32_52
  let v76 : BitVec 32 := Scalar.addi v74 v75
  v76.toNat
def k0_dev8 (d0 : Dev nD) : Nat :=
  let c0_i32_58 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_57 : BitVec 32 := 2#32
  let v85 : BitVec 32 := Scalar.muli v2 c2_i32_57
  let v86 : BitVec 32 := Scalar.addi c0_i32_58 v85
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_59 : BitVec 32 := 1#32
  let v87 : BitVec 32 := Scalar.muli v6 c1_i32_59
  let v88 : BitVec 32 := Scalar.addi v86 v87
  v88.toNat
def k0_dev9 (d0 : Dev nD) : Nat :=
  let c0_i32_65 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_64 : BitVec 32 := 2#32
  let v97 : BitVec 32 := Scalar.muli v2 c2_i32_64
  let v98 : BitVec 32 := Scalar.addi c0_i32_65 v97
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_66 : BitVec 32 := 1#32
  let v99 : BitVec 32 := Scalar.muli v6 c1_i32_66
  let v100 : BitVec 32 := Scalar.addi v98 v99
  v100.toNat
def k0_dev10 (d0 : Dev nD) : Nat :=
  let c0_i32_72 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_71 : BitVec 32 := 2#32
  let v109 : BitVec 32 := Scalar.muli v2 c2_i32_71
  let v110 : BitVec 32 := Scalar.addi c0_i32_72 v109
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_73 : BitVec 32 := 1#32
  let v111 : BitVec 32 := Scalar.muli v6 c1_i32_73
  let v112 : BitVec 32 := Scalar.addi v110 v111
  v112.toNat
def k0_dev11 (d0 : Dev nD) : Nat :=
  let c0_i32_79 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_78 : BitVec 32 := 2#32
  let v121 : BitVec 32 := Scalar.muli v2 c2_i32_78
  let v122 : BitVec 32 := Scalar.addi c0_i32_79 v121
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_80 : BitVec 32 := 1#32
  let v123 : BitVec 32 := Scalar.muli v6 c1_i32_80
  let v124 : BitVec 32 := Scalar.addi v122 v123
  v124.toNat
def k0_dev12 (d0 : Dev nD) : Nat :=
  let c0_i32_86 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_85 : BitVec 32 := 2#32
  let v133 : BitVec 32 := Scalar.muli v2 c2_i32_85
  let v134 : BitVec 32 := Scalar.addi c0_i32_86 v133
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_87 : BitVec 32 := 1#32
  let v135 : BitVec 32 := Scalar.muli v6 c1_i32_87
  let v136 : BitVec 32 := Scalar.addi v134 v135
  v136.toNat
def k0_dev13 (d0 : Dev nD) : Nat :=
  let c0_i32_93 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_92 : BitVec 32 := 2#32
  let v145 : BitVec 32 := Scalar.muli v2 c2_i32_92
  let v146 : BitVec 32 := Scalar.addi c0_i32_93 v145
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_94 : BitVec 32 := 1#32
  let v147 : BitVec 32 := Scalar.muli v6 c1_i32_94
  let v148 : BitVec 32 := Scalar.addi v146 v147
  v148.toNat
def k0_dev14 (d0 : Dev nD) : Nat :=
  let c0_i32_100 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_99 : BitVec 32 := 2#32
  let v157 : BitVec 32 := Scalar.muli v2 c2_i32_99
  let v158 : BitVec 32 := Scalar.addi c0_i32_100 v157
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_101 : BitVec 32 := 1#32
  let v159 : BitVec 32 := Scalar.muli v6 c1_i32_101
  let v160 : BitVec 32 := Scalar.addi v158 v159
  v160.toNat
def k0_dev15 (d0 : Dev nD) : Nat :=
  let c0_i32_107 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_106 : BitVec 32 := 2#32
  let v169 : BitVec 32 := Scalar.muli v2 c2_i32_106
  let v170 : BitVec 32 := Scalar.addi c0_i32_107 v169
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_108 : BitVec 32 := 1#32
  let v171 : BitVec 32 := Scalar.muli v6 c1_i32_108
  let v172 : BitVec 32 := Scalar.addi v170 v171
  v172.toNat
def k0_dev16 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_114 : BitVec 32 := 2#32
  let v181 : BitVec 32 := Scalar.muli v2 c2_i32_114
  let v182 : BitVec 32 := Scalar.addi c0_i32_115 v181
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_116 : BitVec 32 := 1#32
  let v183 : BitVec 32 := Scalar.muli v6 c1_i32_116
  let v184 : BitVec 32 := Scalar.addi v182 v183
  v184.toNat
def k0_dev17 (d0 : Dev nD) : Nat :=
  let c0_i32_122 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_121 : BitVec 32 := 2#32
  let v193 : BitVec 32 := Scalar.muli v2 c2_i32_121
  let v194 : BitVec 32 := Scalar.addi c0_i32_122 v193
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_123 : BitVec 32 := 1#32
  let v195 : BitVec 32 := Scalar.muli v6 c1_i32_123
  let v196 : BitVec 32 := Scalar.addi v194 v195
  v196.toNat
def k0_dev18 (d0 : Dev nD) : Nat :=
  let c0_i32_129 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_128 : BitVec 32 := 2#32
  let v205 : BitVec 32 := Scalar.muli v2 c2_i32_128
  let v206 : BitVec 32 := Scalar.addi c0_i32_129 v205
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_130 : BitVec 32 := 1#32
  let v207 : BitVec 32 := Scalar.muli v6 c1_i32_130
  let v208 : BitVec 32 := Scalar.addi v206 v207
  v208.toNat
def k0_off2 (d0 : Dev nD) : Fin 3 → Nat :=
  let c0_i32_133 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c256_i32_5 : BitVec 32 := 256#32
  let v10 : BitVec 32 := Scalar.muli v9 c256_i32_5
  let c208_i32 : BitVec 32 := 208#32
  let v11 : BitVec 32 := Scalar.addi v10 c208_i32
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.subi c1_i32_6 v5
  let c512_i32_7 : BitVec 32 := 512#32
  let v14 : BitVec 32 := Scalar.muli v13 c512_i32_7
  ![0, v11.toNat, v14.toNat]
def k0_dev19 (d0 : Dev nD) : Nat :=
  let c0_i32_135 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_134 : BitVec 32 := 2#32
  let v216 : BitVec 32 := Scalar.muli v2 c2_i32_134
  let v217 : BitVec 32 := Scalar.addi c0_i32_135 v216
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_136 : BitVec 32 := 1#32
  let v218 : BitVec 32 := Scalar.muli v6 c1_i32_136
  let v219 : BitVec 32 := Scalar.addi v217 v218
  v219.toNat
def k0_off3 (d0 : Dev nD) (c0_i32_146 : BitVec 32) : Fin 3 → Nat :=
  let c0 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let v232 : BitVec 32 := Scalar.addi v8 c0_i32_146
  let v233 : Index := Scalar.indexCast v232
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v12 : BitVec 32 := Scalar.muli v5 c512_i32
  let v234 : Index := Scalar.indexCast v12
  ![0, v233.toNat, v234.toNat]
def k0_off4 (d0 : Dev nD) (c0_i32_137 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let v222 : BitVec 32 := Scalar.addi v8 c0_i32_137
  let v239 : Index := Scalar.indexCast v222
  let c0_149 : Index := 0#32
  ![v239.toNat, 0]
def k0_off5 (d0 : Dev nD) (c0_i32_137 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let v222 : BitVec 32 := Scalar.addi v8 c0_i32_137
  let c0_i32_155 : BitVec 32 := 0#32
  ![v222.toNat, 0]
def k0_dev20 (d0 : Dev nD) : Nat :=
  let c0_i32_153 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_152 : BitVec 32 := 2#32
  let v241 : BitVec 32 := Scalar.muli v7 c2_i32_152
  let v242 : BitVec 32 := Scalar.addi c0_i32_153 v241
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_154 : BitVec 32 := 1#32
  let v243 : BitVec 32 := Scalar.muli v5 c1_i32_154
  let v244 : BitVec 32 := Scalar.addi v242 v243
  v244.toNat
def k0_dev21 (d0 : Dev nD) : Nat :=
  let c0_i32_173 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_172 : BitVec 32 := 2#32
  let v270 : BitVec 32 := Scalar.muli v7 c2_i32_172
  let v271 : BitVec 32 := Scalar.addi c0_i32_173 v270
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_174 : BitVec 32 := 1#32
  let v272 : BitVec 32 := Scalar.muli v5 c1_i32_174
  let v273 : BitVec 32 := Scalar.addi v271 v272
  v273.toNat
def k0_dev22 (d0 : Dev nD) : Nat :=
  let c0_i32_193 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_192 : BitVec 32 := 2#32
  let v299 : BitVec 32 := Scalar.muli v7 c2_i32_192
  let v300 : BitVec 32 := Scalar.addi c0_i32_193 v299
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_194 : BitVec 32 := 1#32
  let v301 : BitVec 32 := Scalar.muli v5 c1_i32_194
  let v302 : BitVec 32 := Scalar.addi v300 v301
  v302.toNat
def k0_dev23 (d0 : Dev nD) : Nat :=
  let c0_i32_213 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_212 : BitVec 32 := 2#32
  let v328 : BitVec 32 := Scalar.muli v7 c2_i32_212
  let v329 : BitVec 32 := Scalar.addi c0_i32_213 v328
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_214 : BitVec 32 := 1#32
  let v330 : BitVec 32 := Scalar.muli v5 c1_i32_214
  let v331 : BitVec 32 := Scalar.addi v329 v330
  v331.toNat
def k0_dev24 (d0 : Dev nD) : Nat :=
  let c0_i32_233 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_232 : BitVec 32 := 2#32
  let v357 : BitVec 32 := Scalar.muli v7 c2_i32_232
  let v358 : BitVec 32 := Scalar.addi c0_i32_233 v357
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_234 : BitVec 32 := 1#32
  let v359 : BitVec 32 := Scalar.muli v5 c1_i32_234
  let v360 : BitVec 32 := Scalar.addi v358 v359
  v360.toNat
def k0_dev25 (d0 : Dev nD) : Nat :=
  let c0_i32_253 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_252 : BitVec 32 := 2#32
  let v386 : BitVec 32 := Scalar.muli v7 c2_i32_252
  let v387 : BitVec 32 := Scalar.addi c0_i32_253 v386
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_254 : BitVec 32 := 1#32
  let v388 : BitVec 32 := Scalar.muli v5 c1_i32_254
  let v389 : BitVec 32 := Scalar.addi v387 v388
  v389.toNat
def k0_dev26 (d0 : Dev nD) : Nat :=
  let c0_i32_273 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_272 : BitVec 32 := 2#32
  let v415 : BitVec 32 := Scalar.muli v7 c2_i32_272
  let v416 : BitVec 32 := Scalar.addi c0_i32_273 v415
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_274 : BitVec 32 := 1#32
  let v417 : BitVec 32 := Scalar.muli v5 c1_i32_274
  let v418 : BitVec 32 := Scalar.addi v416 v417
  v418.toNat
def k0_dev27 (d0 : Dev nD) : Nat :=
  let c0_i32_293 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_292 : BitVec 32 := 2#32
  let v444 : BitVec 32 := Scalar.muli v7 c2_i32_292
  let v445 : BitVec 32 := Scalar.addi c0_i32_293 v444
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_294 : BitVec 32 := 1#32
  let v446 : BitVec 32 := Scalar.muli v5 c1_i32_294
  let v447 : BitVec 32 := Scalar.addi v445 v446
  v447.toNat
def k0_dev28 (d0 : Dev nD) : Nat :=
  let c0_i32_313 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_312 : BitVec 32 := 2#32
  let v473 : BitVec 32 := Scalar.muli v7 c2_i32_312
  let v474 : BitVec 32 := Scalar.addi c0_i32_313 v473
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_314 : BitVec 32 := 1#32
  let v475 : BitVec 32 := Scalar.muli v5 c1_i32_314
  let v476 : BitVec 32 := Scalar.addi v474 v475
  v476.toNat
def k0_dev29 (d0 : Dev nD) : Nat :=
  let c0_i32_333 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_332 : BitVec 32 := 2#32
  let v502 : BitVec 32 := Scalar.muli v7 c2_i32_332
  let v503 : BitVec 32 := Scalar.addi c0_i32_333 v502
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_334 : BitVec 32 := 1#32
  let v504 : BitVec 32 := Scalar.muli v5 c1_i32_334
  let v505 : BitVec 32 := Scalar.addi v503 v504
  v505.toNat
def k0_dev30 (d0 : Dev nD) : Nat :=
  let c0_i32_353 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_352 : BitVec 32 := 2#32
  let v531 : BitVec 32 := Scalar.muli v7 c2_i32_352
  let v532 : BitVec 32 := Scalar.addi c0_i32_353 v531
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_354 : BitVec 32 := 1#32
  let v533 : BitVec 32 := Scalar.muli v5 c1_i32_354
  let v534 : BitVec 32 := Scalar.addi v532 v533
  v534.toNat
def k0_dev31 (d0 : Dev nD) : Nat :=
  let c0_i32_373 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_372 : BitVec 32 := 2#32
  let v560 : BitVec 32 := Scalar.muli v7 c2_i32_372
  let v561 : BitVec 32 := Scalar.addi c0_i32_373 v560
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_374 : BitVec 32 := 1#32
  let v562 : BitVec 32 := Scalar.muli v5 c1_i32_374
  let v563 : BitVec 32 := Scalar.addi v561 v562
  v563.toNat
def k0_dev32 (d0 : Dev nD) : Nat :=
  let c0_i32_393 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_392 : BitVec 32 := 2#32
  let v589 : BitVec 32 := Scalar.muli v7 c2_i32_392
  let v590 : BitVec 32 := Scalar.addi c0_i32_393 v589
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_394 : BitVec 32 := 1#32
  let v591 : BitVec 32 := Scalar.muli v5 c1_i32_394
  let v592 : BitVec 32 := Scalar.addi v590 v591
  v592.toNat
def k0_off6 (d0 : Dev nD) : Fin 3 → Nat :=
  let c0_440 : Index := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c256_i32_5 : BitVec 32 := 256#32
  let v10 : BitVec 32 := Scalar.muli v9 c256_i32_5
  let c208_i32 : BitVec 32 := 208#32
  let v11 : BitVec 32 := Scalar.addi v10 c208_i32
  let v662 : Index := Scalar.indexCast v11
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v12 : BitVec 32 := Scalar.muli v5 c512_i32
  let v663 : Index := Scalar.indexCast v12
  ![0, v662.toNat, v663.toNat]
def k0_off7 (d0 : Dev nD) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c256_i32_5 : BitVec 32 := 256#32
  let v10 : BitVec 32 := Scalar.muli v9 c256_i32_5
  let c208_i32 : BitVec 32 := 208#32
  let v11 : BitVec 32 := Scalar.addi v10 c208_i32
  let v668 : Index := Scalar.indexCast v11
  let c0_443 : Index := 0#32
  ![v668.toNat, 0]
def k0_off8 (d0 : Dev nD) (c0_i32_444 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c256_i32_5 : BitVec 32 := 256#32
  let v10 : BitVec 32 := Scalar.muli v9 c256_i32_5
  let v670 : BitVec 32 := Scalar.addi v10 c0_i32_444
  let c0_i32_450 : BitVec 32 := 0#32
  ![v670.toNat, 0]
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S_, .f32⟩
  | .hbm, ⟨2, _⟩ => ⟨S512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Shape.lean ====
/-
The kernel's body written as loops over its chunks.

The printed body is one straight line of memory operations, cut into windows. Here the same line is written with one
definition per kind of step, the step's chunk a variable: sixteen sends of the first round, the send of the duplicated
rows, thirteen receive–add–forward steps, three receive–add steps, the duplicated rows' receive–add, and the closing
waits. `body_eq` says the two are the same program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.ScatterProof

open Cert.KernelIdeal Cert.KernelIdeal.Gen
open Idealize.ShloMosaic Idealize.ShloMosaic.TcCoe
open Idealize.SL Idealize.SL.Sem

variable {F : FTy → Type} [FloatOps F]

/-- The programs of this kernel's core. -/
abbrev KProg (F : FTy → Type) [FloatOps F] (α : Type) := Prog (TpuEff nD τ sig (Elt F) Λ₀ .tc) α

/-! ## The memrefs -/

/-- The staged block of `x`. -/
abbrev xM : Memref sig .tc .vmem S1x512x1024 .f32 := Memref.whole cc0_stg0_0
/-- The staged result. -/
abbrev oM : Memref sig .tc .vmem S512x512 .f32 := Memref.whole cc0_stg1_0
/-- The first round's landing buffer. -/
abbrev r1M : Memref sig .tc .vmem S256x512 .f32 := Memref.whole cc0_scratch0
/-- The duplicated rows' landing buffer. -/
abbrev rdM : Memref sig .tc .vmem S48x512 .f32 := Memref.whole cc0_scratch1

theorem inb16 (i : Fin 16) : ∀ a, (![i.val] : Fin 1 → ℕ) a + S1.size a ≤ S16.size a := by
  revert i; decide
theorem inbR1 (i : Fin 16) : ∀ a, (![16 * i.val, 0] : Fin 2 → ℕ) a + S16x512.size a ≤ S256x512.size a := by
  revert i; decide

/-- Semaphore `i` of an array of sixteen. -/
abbrev semAt (A : DmaSems sig S16) (i : Fin 16) : DmaSem sig :=
  ((A.slice (Rect.unit (s := S16) ![i.val] S1.size (inb16 i))).squeeze S_ squeezes_S1_S_).sem

/-- Chunk `i` of the landing buffer of the first round. -/
abbrev r1S (i : Fin 16) : Memref sig .tc .vmem S16x512 .f32 :=
  r1M.slice (Rect.unit (s := S256x512) ![16 * i.val, 0] S16x512.size (inbR1 i)) (fun _ => rfl)
/-- The rows of `x` that chunk `i` of the first round sends: the device's own rows, the peer's columns. -/
abbrev xS (d : Dev nD) (i : Fin 16) : Memref sig .tc .vmem S16x512 .f32 :=
  (xM.slice (Rect.unit (s := S1x512x1024) (k0_off1 d (BitVec.ofNat 32 (16 * i.val))) S1x16x512.size (k0_off1_inb d i)) (fun _ => rfl)).squeeze
    S16x512 squeezes_S1x16x512_S16x512
/-- The duplicated rows of `x`, the peer's columns. -/
abbrev xD (d : Dev nD) : Memref sig .tc .vmem S48x512 .f32 :=
  (xM.slice (Rect.unit (s := S1x512x1024) (k0_off2 d) S1x48x512.size (k0_off2_inb d)) (fun _ => rfl)).squeeze
    S48x512 squeezes_S1x48x512_S48x512
/-- Rows of the result that chunk `i` of the second round carries, on the device that makes them. -/
abbrev oS (d : Dev nD) (i : Fin 13) : Memref sig .tc .vmem S16x512 .f32 :=
  oM.slice (Rect.unit (s := S512x512) (k0_off5 d (BitVec.ofNat 32 (16 * i.val))) S16x512.size (k0_off5_inb d i)) (fun _ => rfl)
/-- Rows of the result that chunk `i` of the second round carries, on the device that is sent them. -/
abbrev oR (d : Dev nD) (i : Fin 13) : Memref sig .tc .vmem S16x512 .f32 :=
  oM.slice (Rect.unit (s := S512x512) (k0_off8 d (BitVec.ofNat 32 (16 * i.val))) S16x512.size (k0_off8_inb d i)) (fun _ => rfl)

/-- The rectangle of `x` that step `i` adds from. -/
abbrev xRect (d : Dev nD) (i : Fin 16) : Rect S1x512x1024 :=
  Rect.unit (s := S1x512x1024) (k0_off3 d (BitVec.ofNat 32 (16 * i.val))) S1x16x512.size (k0_off3_inb d i)
/-- The rows of the result that step `i` stores. -/
abbrev oRect (d : Dev nD) (i : Fin 16) : Rect S512x512 :=
  Rect.unit (s := S512x512) (k0_off4 d (BitVec.ofNat 32 (16 * i.val))) S16x512.size (k0_off4_inb d i)
/-- Chunk `i` of the landing buffer, as a rectangle. -/
abbrev r1Rect (i : Fin 16) : Rect S256x512 := Rect.unit (s := S256x512) ![16 * i.val, 0] S16x512.size (inbR1 i)
/-- The duplicated rows of `x` at the device's own columns. -/
abbrev xDRect (d : Dev nD) : Rect S1x512x1024 := Rect.unit (s := S1x512x1024) (k0_off6 d) S1x48x512.size (k0_off6_inb d)
/-- The duplicated rows of the result. -/
abbrev oDRect (d : Dev nD) : Rect S512x512 := Rect.unit (s := S512x512) (k0_off7 d) S48x512.size (k0_off7_inb d)
/-- The duplicated rows' landing buffer, as a rectangle. -/
abbrev rdRect : Rect S48x512 := Rect.unit (s := S48x512) ![0, 0] S48x512.size inb_S48x512_S48x512_0_0

/-- The device beside `d` along the summed axis. -/
abbrev yp (d : Dev nD) : Dev nD := ⟨k0_dev1 d, k0_dev1_lt d⟩
/-- The device beside `d` along the other axis. -/
abbrev xp (d : Dev nD) : Dev nD := ⟨k0_dev2 d, k0_dev2_lt d⟩

/-- The barrier semaphore. -/
abbrev barS : Sem sig := (SemArray.scalar (sig.barrier 0 rfl) : Sems sig S_).sem

/-! ## The steps -/

/-- Send chunk `i` of the first round. -/
def send1 (d : Dev nD) (i : Fin 16) : KProg F PUnit :=
  Prog.lift (.enqueueDma (xS d i) (.remote (Dev.tc (yp d)) (r1S i) (.dma (semAt cc0_scratch2 i))) (.dma (semAt cc0_scratch3 i))
    ((View.wordExact_bits rfl).reshape _ _) (View.wordExact_bits rfl) ⟨⟨rfl, Or.inl rfl⟩, trivial⟩)
/-- Send the duplicated rows. -/
def sendD (d : Dev nD) : KProg F PUnit :=
  Prog.lift (.enqueueDma (xD d) (.remote (Dev.tc (yp d)) rdM (.dma cc0_scratch6.sem)) (.dma cc0_scratch7.sem)
    ((View.wordExact_bits rfl).reshape _ _) (Memref.isWhole_whole _).wordExact ⟨⟨rfl, Or.inl rfl⟩, trivial⟩)
/-- Receive chunk `i`, add the device's own rows to it and store the sum. -/
def addStep (d : Dev nD) (i : Fin 16) : KProg F PUnit := do
  Prog.lift (.waitDma2 (semAt cc0_scratch3 i) (xS d i) (r1S i) ((View.wordExact_bits rfl).reshape _ _) (View.wordExact_bits rfl))
  let a : Vec F S1x16x512 .f32 ← Prog.lift (.load xM (xRect d i).toLoadRect (View.loadsAt_vmem h_S1x16x512))
  let b : Vec F S16x512 .f32 ← Prog.lift (.load r1M (r1Rect i).toLoadRect (View.loadsAt_vmem h_S16x512))
  let _dead : Vec F S16x512 .f32 ← Prog.lift (.load oM (oRect d i).toLoadRect (View.loadsAt_vmem h_S16x512))
  Prog.lift (.store oM (oRect d i) (k0_pay1 a b) Finset.univ (View.stores_vmem_bits_univ h_S16x512 rfl) (.inl rfl))
/-- Forward the rows that step `i` stored. -/
def send2 (d : Dev nD) (i : Fin 13) : KProg F PUnit :=
  Prog.lift (.enqueueDma (oS d i) (.remote (Dev.tc (xp d)) (oS d i) (.dma (semAt cc0_scratch4 (i.castLE (by omega)))))
    (.dma (semAt cc0_scratch5 (i.castLE (by omega))))
    (View.wordExact_bits rfl) (View.wordExact_bits rfl) ⟨⟨rfl, Or.inl rfl⟩, trivial⟩)
/-- Receive, add, store and forward. -/
def fwdStep (d : Dev nD) (i : Fin 13) : KProg F PUnit := do
  addStep d (i.castLE (by omega))
  send2 d i
/-- Receive the duplicated rows, add and store. -/
def addD (d : Dev nD) : KProg F PUnit := do
  Prog.lift (.waitDma2 cc0_scratch7.sem (xD d) rdM ((View.wordExact_bits rfl).reshape _ _) (Memref.isWhole_whole _).wordExact)
  let a : Vec F S1x48x512 .f32 ← Prog.lift (.load xM (xDRect d).toLoadRect (View.loadsAt_vmem h_S1x48x512))
  let b : Vec F S48x512 .f32 ← Prog.lift (.load rdM rdRect.toLoadRect (View.loadsAt_vmem h_S48x512))
  let _dead : Vec F S48x512 .f32 ← Prog.lift (.load oM (oDRect d).toLoadRect (View.loadsAt_vmem h_S48x512))
  Prog.lift (.store oM (oDRect d) (k0_pay20 a b) Finset.univ (View.stores_vmem_bits_univ h_S48x512 rfl) (.inl rfl))
/-- Wait for chunk `i` of the second round to land. -/
def recv2 (d : Dev nD) (i : Fin 13) : KProg F PUnit :=
  Prog.lift (.waitDma2 (semAt cc0_scratch5 (i.castLE (by omega))) (oR d i) (oR d i) (View.wordExact_bits rfl) (View.wordExact_bits rfl))
/-- Wait for chunk `i` of the first round to have left. -/
def sent1 (d : Dev nD) (i : Fin 16) : KProg F PUnit :=
  Prog.lift (.waitDma2 (semAt cc0_scratch2 i) (r1S i) (xS d i) (View.wordExact_bits rfl) ((View.wordExact_bits rfl).reshape _ _))
/-- Wait for chunk `i` of the second round to have left. -/
def sent2 (d : Dev nD) (i : Fin 13) : KProg F PUnit :=
  Prog.lift (.waitDma2 (semAt cc0_scratch4 (i.castLE (by omega))) (oS d i) (oS d i) (View.wordExact_bits rfl) (View.wordExact_bits rfl))
/-- Wait for the duplicated rows to have left. -/
def sentD (d : Dev nD) : KProg F PUnit :=
  Prog.lift (.waitDma2 cc0_scratch6.sem rdM (xD d) (Memref.isWhole_whole _).wordExact ((View.wordExact_bits rfl).reshape _ _))

/-- Run a list of steps, then `k`. -/
def steps {ι : Type} (p : ι → KProg F PUnit) : List ι → KProg F PUnit → KProg F PUnit
  | [], k => k
  | i :: l, k => p i >>= fun _ => steps p l k

/-- The chunks of the first round, in order. -/
abbrev all16 : List (Fin 16) := [0, 1, 2, 3, 4, 5, 6, 7, 8, 9, 10, 11, 12, 13, 14, 15]
/-- The chunks of the second round, in order. -/
abbrev all13 : List (Fin 13) := [0, 1, 2, 3, 4, 5, 6, 7, 8, 9, 10, 11, 12]
/-- The chunks that are not forwarded. -/
abbrev last3 : List (Fin 16) := [13, 14, 15]

/-- The handshake, then everything after it. -/
def hello (d : Dev nD) (k : KProg F PUnit) : KProg F PUnit := do
  semSignalWord (yp d) barS 1#32
  semSignalWord (xp d) barS 1#32
  semWaitWord barS 2#32
  k

/-- The whole body in loops. -/
def loops : KProg F PUnit :=
  Prog.lift .deviceId >>= fun d =>
    hello d <| steps (send1 d) all16 <| sendD d >>= fun _ =>
      steps (fwdStep d) all13 <| steps (addStep d) last3 <| addD d >>= fun _ =>
        steps (recv2 d) all13 <| steps (sent1 d) all16 <| steps (sent2 d) all13 <| sentD d

set_option maxRecDepth 65536 in
/-- The body in loops is the printed body. -/
theorem body_eq : cc0_body (F := F) xM (Memref.isWhole_whole _) oM (Memref.isWhole_whole _) r1M (Memref.isWhole_whole _) rdM
    (Memref.isWhole_whole _) cc0_scratch2 cc0_scratch3 cc0_scratch4 cc0_scratch5 cc0_scratch6 cc0_scratch7 = loops := by
  rfl

end Cert.ScatterProof

end
-- ==== Proof.Content.lean ====
/-
What the kernel's buffers hold and which elements its transfers move.

The landing buffers hold rows of the peer's block of `x`; the result's rows are sums of the device's own rows and the
peer's, made by this device for its own half and the duplicated rows, by the device across for the rest. Each view the
kernel uses is a band of rows and columns; the lemmas here say which, and that every transfer and store writes what the
content functions say.
-/
module

public import proofs.«01_k».proof.Proof.Shape
public import Idealize.ShloMosaic.Lib.ValueIdxCore
public import Idealize.ShloMosaic.Lib.ValueLayout
public import Idealize.ShloMosaic.Lib.Pipeline.Value

@[expose] public section

noncomputable section

namespace Cert.ScatterProof

open Cert.KernelIdeal Cert.KernelIdeal.Gen
open Idealize.ShloMosaic Idealize.ShloMosaic.TcCoe
open Idealize.SL Idealize.SL.Sem
open Idealize.ShloMosaic.ValueIdx

variable {F : FTy → Type} [FloatOps F]
variable (m : (ℓ : Loc nD τ sig) → Buf (Elt F) ℓ) (ρ : Dev nD → PrngReg)

/-! ## The devices -/

theorem yp_val (d : Dev nD) : (yp d).val = 2 * (d.val / 2) + 1 - d.val % 2 := k0_dev1_eq d
theorem xp_val (d : Dev nD) : (xp d).val = d.val % 2 + 2 - 2 * (d.val / 2) := k0_dev2_eq d
theorem dev_lt (d : Dev nD) : d.val < 4 := d.isLt
theorem yp_yp (d : Dev nD) : yp (yp d) = d := by
  have := dev_lt d; exact Fin.ext (by rw [yp_val, yp_val]; omega)
theorem xp_xp (d : Dev nD) : xp (xp d) = d := by
  have := dev_lt d; exact Fin.ext (by rw [xp_val, xp_val]; omega)
theorem yp_row (d : Dev nD) : (yp d).val / 2 = d.val / 2 := by have := dev_lt d; rw [yp_val]; omega
theorem yp_col (d : Dev nD) : (yp d).val % 2 = 1 - d.val % 2 := by have := dev_lt d; rw [yp_val]; omega
theorem xp_row (d : Dev nD) : (xp d).val / 2 = 1 - d.val / 2 := by have := dev_lt d; rw [xp_val]; omega
theorem xp_col (d : Dev nD) : (xp d).val % 2 = d.val % 2 := by have := dev_lt d; rw [xp_val]; omega

/-! ## The contents -/

/-- The memory at launch: arbitrary contents, every semaphore counter zero, arbitrary generator registers. -/
def s₀ : MemSt nD τ sig (Elt F) := ⟨m, fun _ => 0, ρ⟩

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))

/-- Element (row, column) of device `c`'s block of `x`; out of range rows and columns are folded back. -/
def xAt (c : Dev nD) (r j : ℕ) : Elt F .f32 :=
  xstg m ρ c (ix3 (0 : Fin 1) (⟨r % 512, Nat.mod_lt _ (by decide)⟩ : Fin 512) (⟨j % 1024, Nat.mod_lt _ (by decide)⟩ : Fin 1024))

/-- What lands in the first round's buffer of device `c`: the peer's rows, at `c`'s columns. -/
def landed1 (c : Dev nD) : (cc0_scratch0 : Ref sig .tc).ty.Contents (Elt F) :=
  fun (i : S256x512.Idx) => xAt m ρ (yp c) (256 * (c.val / 2) + (i 0).val) (512 * (c.val % 2) + (i 1).val)

/-- What lands in the duplicated rows' buffer of device `c`. -/
def landedD (c : Dev nD) : (cc0_scratch1 : Ref sig .tc).ty.Contents (Elt F) :=
  fun (i : S48x512.Idx) => xAt m ρ (yp c) (464 - 256 * (c.val / 2) + (i 0).val) (512 * (c.val % 2) + (i 1).val)

/-- The sum of `x`'s rows over the pair of `c`, at `c`'s columns. -/
def sumAt (c : Dev nD) (r j : ℕ) : Elt F .f32 :=
  FloatOps.addf (F := F) (φ := .f32) (xAt m ρ c r (512 * (c.val % 2) + j)) (xAt m ρ (yp c) r (512 * (c.val % 2) + j))

/-- The result on device `c`: the device's own sum on its half and the duplicated rows, the sum of the device across on
    the rest. -/
def outAt (c : Dev nD) : (cc0_stg1_0 : Ref sig .tc).ty.Contents (Elt F) :=
  fun (i : S512x512.Idx) => if (i 0).val / 256 = c.val / 2 ∨ 208 ≤ (i 0).val % 256 then sumAt m ρ c (i 0).val (i 1).val
    else sumAt m ρ (xp c) (i 0).val (i 1).val

/-! ## The bands -/

theorem lt2_0 {a b : ℕ} (i : (⟨2, ![a, b]⟩ : Shape).Idx) : (i 0).val < a := (i 0).isLt
theorem lt2_1 {a b : ℕ} (i : (⟨2, ![a, b]⟩ : Shape).Idx) : (i 1).val < b := (i 1).isLt
theorem lt3_0 {a b c : ℕ} (i : (⟨3, ![a, b, c]⟩ : Shape).Idx) : (i 0).val < a := (i 0).isLt
theorem lt3_1 {a b c : ℕ} (i : (⟨3, ![a, b, c]⟩ : Shape).Idx) : (i 1).val < b := (i 1).isLt
theorem lt3_2 {a b c : ℕ} (i : (⟨3, ![a, b, c]⟩ : Shape).Idx) : (i 2).val < c := (i 2).isLt

/-- Membership in a unit-stride band of a matrix. -/
theorem mem_band2 {a b : ℕ} {off size : Fin 2 → ℕ} {inb} (i : (⟨2, ![a, b]⟩ : Shape).Idx) :
    i ∈ (Rect.unit (s := ⟨2, ![a, b]⟩) off size inb).set
      ↔ (off 0 ≤ (i 0).val ∧ (i 0).val < off 0 + size 0) ∧ (off 1 ≤ (i 1).val ∧ (i 1).val < off 1 + size 1) := by
  rw [Rect.mem_set_unit]; exact Fin.forall_fin_two
/-- Membership in a unit-stride band of a stack of matrices. -/
theorem mem_band3 {a b c : ℕ} {off size : Fin 3 → ℕ} {inb} (i : (⟨3, ![a, b, c]⟩ : Shape).Idx) :
    i ∈ (Rect.unit (s := ⟨3, ![a, b, c]⟩) off size inb).set
      ↔ (off 0 ≤ (i 0).val ∧ (i 0).val < off 0 + size 0) ∧ (off 1 ≤ (i 1).val ∧ (i 1).val < off 1 + size 1)
        ∧ (off 2 ≤ (i 2).val ∧ (i 2).val < off 2 + size 2) := by
  rw [Rect.mem_set_unit]; exact Fin.forall_fin_succ.trans (and_congr_right fun _ => Fin.forall_fin_two)

theorem mem_r1S (k : Fin 16) (i : S256x512.Idx) : i ∈ (r1S k).view.set ↔ (i 0).val / 16 = k.val := by
  have h1 := lt2_1 i
  rw [show (r1S k).view.set = (r1Rect k).set from View.set_slice_whole _ _]
  refine (mem_band2 i).trans ?_
  show (16 * k.val ≤ _ ∧ _ < 16 * k.val + 16) ∧ (0 ≤ _ ∧ _ < 0 + 512) ↔ _
  omega

theorem mem_xS (d : Dev nD) (k : Fin 16) (i : S1x512x1024.Idx) :
    i ∈ (xS d k).view.set ↔ ((i 1).val / 16 = 16 * (d.val / 2) + k.val ∧ (i 2).val / 512 = 1 - d.val % 2) := by
  have hd := dev_lt d
  have h0 := lt3_0 i
  have h2 := lt3_2 i
  have e := k0_off1_eq d k
  rw [show (xS d k).view.set = (Rect.unit (s := S1x512x1024) (k0_off1 d (BitVec.ofNat 32 (16 * k.val))) S1x16x512.size (k0_off1_inb d k)).set from
    (View.set_reshape _ _).trans (View.set_slice_whole _ _)]
  refine (mem_band3 i).trans ?_
  rw [e]
  show (0 ≤ _ ∧ _ < 0 + 1) ∧ (256 * (d.val / 2) + 16 * k.val ≤ _ ∧ _ < 256 * (d.val / 2) + 16 * k.val + 16)
    ∧ (512 - 512 * (d.val % 2) ≤ _ ∧ _ < 512 - 512 * (d.val % 2) + 512) ↔ _
  omega

theorem mem_xD (d : Dev nD) (i : S1x512x1024.Idx) :
    i ∈ (xD d).view.set ↔ ((464 - 256 * (d.val / 2) ≤ (i 1).val ∧ (i 1).val < 512 - 256 * (d.val / 2)) ∧ (i 2).val / 512 = 1 - d.val % 2) := by
  have hd := dev_lt d
  have h0 := lt3_0 i
  have h2 := lt3_2 i
  have e := k0_off2_eq d
  rw [show (xD d).view.set = (Rect.unit (s := S1x512x1024) (k0_off2 d) S1x48x512.size (k0_off2_inb d)).set from
    (View.set_reshape _ _).trans (View.set_slice_whole _ _)]
  refine (mem_band3 i).trans ?_
  rw [e]
  show (0 ≤ _ ∧ _ < 0 + 1) ∧ (464 - 256 * (d.val / 2) ≤ _ ∧ _ < 464 - 256 * (d.val / 2) + 48)
    ∧ (512 - 512 * (d.val % 2) ≤ _ ∧ _ < 512 - 512 * (d.val % 2) + 512) ↔ _
  omega

theorem mem_oS (d : Dev nD) (k : Fin 13) (i : S512x512.Idx) : i ∈ (oS d k).view.set ↔ (i 0).val / 16 = 16 * (d.val / 2) + k.val := by
  have hd := dev_lt d
  have h1 := lt2_1 i
  have e := k0_off5_eq d k
  rw [show (oS d k).view.set = (Rect.unit (s := S512x512) (k0_off5 d (BitVec.ofNat 32 (16 * k.val))) S16x512.size (k0_off5_inb d k)).set from
    View.set_slice_whole _ _]
  refine (mem_band2 i).trans ?_
  rw [e]
  show (256 * (d.val / 2) + 16 * k.val ≤ _ ∧ _ < 256 * (d.val / 2) + 16 * k.val + 16) ∧ (0 ≤ _ ∧ _ < 0 + 512) ↔ _
  omega

theorem mem_oRect (d : Dev nD) (k : Fin 16) (i : S512x512.Idx) : i ∈ (oM.access (oRect d k)).set ↔ (i 0).val / 16 = 16 * (d.val / 2) + k.val := by
  have hd := dev_lt d
  have h1 := lt2_1 i
  have e := k0_off4_eq d k
  rw [show (oM.access (oRect d k)).set = (oRect d k).set from View.set_slice_whole _ _]
  refine (mem_band2 i).trans ?_
  rw [e]
  show (256 * (d.val / 2) + 16 * k.val ≤ _ ∧ _ < 256 * (d.val / 2) + 16 * k.val + 16) ∧ (0 ≤ _ ∧ _ < 0 + 512) ↔ _
  omega

theorem mem_oDRect (d : Dev nD) (i : S512x512.Idx) : i ∈ (oM.access (oDRect d)).set ↔ (464 - 256 * (d.val / 2) ≤ (i 0).val ∧ (i 0).val < 512 - 256 * (d.val / 2)) := by
  have hd := dev_lt d
  have h1 := lt2_1 i
  have e := k0_off7_eq d
  rw [show (oM.access (oDRect d)).set = (oDRect d).set from View.set_slice_whole _ _]
  refine (mem_band2 i).trans ?_
  rw [e]
  show (464 - 256 * (d.val / 2) ≤ _ ∧ _ < 464 - 256 * (d.val / 2) + 48) ∧ (0 ≤ _ ∧ _ < 0 + 512) ↔ _
  omega

/-! ## What the views read -/

theorem xstg_eq (c : Dev nD) (i : S1x512x1024.Idx) : xstg m ρ c i = xAt m ρ c (i 1).val (i 2).val := by
  have h0 := lt3_0 i
  have h1 := lt3_1 i
  have h2 := lt3_2 i
  refine congrArg (xstg m ρ c) (funext fun a => ?_)
  match a with
  | ⟨0, _⟩ => exact Fin.ext (show (i 0).val = 0 by omega)
  | ⟨1, _⟩ => exact Fin.ext (Nat.mod_eq_of_lt h1).symm
  | ⟨2, _⟩ => exact Fin.ext (Nat.mod_eq_of_lt h2).symm

theorem xS_read (d : Dev nD) (k : Fin 16) (j : S16x512.Idx) :
    (xS d k).view.read (Elt F) (xstg m ρ d) j = xAt m ρ d (256 * (d.val / 2) + 16 * k.val + (j 0).val) (512 - 512 * (d.val % 2) + (j 1).val) := by
  have e := k0_off1_eq d k
  have e1 := congrFun e 1
  have e2 := congrFun e 2
  refine (xstg_eq m ρ d ((xS d k).view.emb j)).trans ?_
  have hj : (xS d k).view.emb j = (Rect.unit (s := S1x512x1024) (k0_off1 d (BitVec.ofNat 32 (16 * k.val))) S1x16x512.size (k0_off1_inb d k)).emb
      (ix3 (⟨0, Nat.one_pos⟩ : Fin 1) (j 0) (j 1)) :=
    congrArg (Rect.emb _) ((congrArg _ (eq_ix2 j)).trans (reshapeEquiv_ix2_1ab _ _ _))
  rw [hj]
  refine congrArg₂ _ ?_ ?_
  · show k0_off1 d (BitVec.ofNat 32 (16 * k.val)) 1 + 1 * (j 0).val = _
    rw [e1, Nat.one_mul]; rfl
  · show k0_off1 d (BitVec.ofNat 32 (16 * k.val)) 2 + 1 * (j 1).val = _
    rw [e2, Nat.one_mul]; rfl

theorem xD_read (d : Dev nD) (j : S48x512.Idx) :
    (xD d).view.read (Elt F) (xstg m ρ d) j = xAt m ρ d (464 - 256 * (d.val / 2) + (j 0).val) (512 - 512 * (d.val % 2) + (j 1).val) := by
  have e := k0_off2_eq d
  have e1 := congrFun e 1
  have e2 := congrFun e 2
  refine (xstg_eq m ρ d ((xD d).view.emb j)).trans ?_
  have hj : (xD d).view.emb j = (Rect.unit (s := S1x512x1024) (k0_off2 d) S1x48x512.size (k0_off2_inb d)).emb
      (ix3 (⟨0, Nat.one_pos⟩ : Fin 1) (j 0) (j 1)) :=
    congrArg (Rect.emb _) ((congrArg _ (eq_ix2 j)).trans (reshapeEquiv_ix2_1ab _ _ _))
  rw [hj]
  refine congrArg₂ _ ?_ ?_
  · show k0_off2 d 1 + 1 * (j 0).val = _
    rw [e1, Nat.one_mul]; rfl
  · show k0_off2 d 2 + 1 * (j 1).val = _
    rw [e2, Nat.one_mul]; rfl

theorem xRect_read (d : Dev nD) (k : Fin 16) (x : Fin 16) (y : Fin 512) :
    (xM.access (xRect d k)).read (Elt F) (xstg m ρ d) (ix3 (0 : Fin 1) x y)
      = xAt m ρ d (256 * (d.val / 2) + 16 * k.val + x.val) (512 * (d.val % 2) + y.val) := by
  have e := k0_off3_eq d k
  have e1 := congrFun e 1
  have e2 := congrFun e 2
  refine (xstg_eq m ρ d ((xRect d k).emb (ix3 (0 : Fin 1) x y))).trans (congrArg₂ _ ?_ ?_)
  · show k0_off3 d (BitVec.ofNat 32 (16 * k.val)) 1 + 1 * x.val = _
    rw [e1, Nat.one_mul]; rfl
  · show k0_off3 d (BitVec.ofNat 32 (16 * k.val)) 2 + 1 * y.val = _
    rw [e2, Nat.one_mul]; rfl

theorem xDRect_read (d : Dev nD) (x : Fin 48) (y : Fin 512) :
    (xM.access (xDRect d)).read (Elt F) (xstg m ρ d) (ix3 (0 : Fin 1) x y)
      = xAt m ρ d (464 - 256 * (d.val / 2) + x.val) (512 * (d.val % 2) + y.val) := by
  have e := k0_off6_eq d
  have e1 := congrFun e 1
  have e2 := congrFun e 2
  refine (xstg_eq m ρ d ((xDRect d).emb (ix3 (0 : Fin 1) x y))).trans (congrArg₂ _ ?_ ?_)
  · show k0_off6 d 1 + 1 * x.val = _
    rw [e1, Nat.one_mul]; rfl
  · show k0_off6 d 2 + 1 * y.val = _
    rw [e2, Nat.one_mul]; rfl

/-! ## What the transfers and stores leave -/

/-- A first-round send leaves the peer's landing chunk at `landed1`. -/
theorem send1_lands (d : Dev nD) (k : Fin 16) (fd : (cc0_scratch0 : Ref sig .tc).ty.Contents (Elt F)) :
    ∀ p ∈ (r1S k).view.set, (r1S k).view.write (Elt F) fd ((xS d k).view.read (Elt F) (xstg m ρ d)) Finset.univ p = landed1 m ρ (yp d) p := by
  intro p hp
  obtain ⟨j, rfl⟩ := View.exists_emb_of_mem_set _ hp
  have hd := dev_lt d
  refine (View.write_emb_of_mem (v := (r1S k).view) fd ((xS d k).view.read (Elt F) (xstg m ρ d)) (Finset.mem_univ j)).trans ?_
  refine (xS_read m ρ d k j).trans ?_
  show xAt m ρ d _ _ = xAt m ρ (yp (yp d)) (256 * ((yp d).val / 2) + (16 * k.val + 1 * (j 0).val)) (512 * ((yp d).val % 2) + (0 + 1 * (j 1).val))
  rw [yp_yp, yp_row, yp_col]
  exact congrArg₂ _ (by omega) (by omega)

/-- The duplicated rows' send leaves the peer's buffer at `landedD`. -/
theorem sendD_lands (d : Dev nD) (fd : (cc0_scratch1 : Ref sig .tc).ty.Contents (Elt F)) :
    ∀ p ∈ rdM.view.set, rdM.view.write (Elt F) fd ((xD d).view.read (Elt F) (xstg m ρ d)) Finset.univ p = landedD m ρ (yp d) p := by
  intro p hp
  have hd := dev_lt d
  refine (View.write_emb_of_mem (v := rdM.view) fd ((xD d).view.read (Elt F) (xstg m ρ d)) (Finset.mem_univ p)).trans ?_
  refine (xD_read m ρ d p).trans ?_
  show xAt m ρ d _ _ = xAt m ρ (yp (yp d)) (464 - 256 * ((yp d).val / 2) + (p 0).val) (512 * ((yp d).val % 2) + (p 1).val)
  rw [yp_yp, yp_row, yp_col]
  exact congrArg₂ _ (by omega) (by omega)

theorem outAt_own (d : Dev nD) (p : S512x512.Idx) (h : (p 0).val / 256 = d.val / 2 ∨ 208 ≤ (p 0).val % 256) :
    outAt m ρ d p = sumAt m ρ d (p 0).val (p 1).val := if_pos h
theorem outAt_other (d : Dev nD) (p : S512x512.Idx) (h : ¬ ((p 0).val / 256 = d.val / 2 ∨ 208 ≤ (p 0).val % 256)) :
    outAt m ρ d p = sumAt m ρ (xp d) (p 0).val (p 1).val := if_neg h

theorem pay1_at (a : Vec F S1x16x512 .f32) (b : Vec F S16x512 .f32) (x : Fin 16) (y : Fin 512) :
    k0_pay1 a b (ix2 x y) = FloatOps.addf (F := F) (φ := .f32) (a (ix3 (0 : Fin 1) x y)) (b (ix2 x y)) :=
  congrArg (fun u => FloatOps.addf (F := F) (φ := .f32) u (b (ix2 x y))) (shapeCast_1ab_ab_apply a shapeCasts_S1x16x512_S16x512 x y)
theorem pay20_at (a : Vec F S1x48x512 .f32) (b : Vec F S48x512 .f32) (x : Fin 48) (y : Fin 512) :
    k0_pay20 a b (ix2 x y) = FloatOps.addf (F := F) (φ := .f32) (a (ix3 (0 : Fin 1) x y)) (b (ix2 x y)) :=
  congrArg (fun u => FloatOps.addf (F := F) (φ := .f32) u (b (ix2 x y))) (shapeCast_1ab_ab_apply a shapeCasts_S1x48x512_S48x512 x y)

theorem r1Rect_read (d : Dev nD) (k : Fin 16) (x : Fin 16) (y : Fin 512) :
    (r1M.access (r1Rect k)).read (Elt F) (landed1 m ρ d) (ix2 x y)
      = xAt m ρ (yp d) (256 * (d.val / 2) + 16 * k.val + x.val) (512 * (d.val % 2) + y.val) := by
  show xAt m ρ (yp d) (256 * (d.val / 2) + (16 * k.val + 1 * x.val)) (512 * (d.val % 2) + (0 + 1 * y.val)) = _
  exact congrArg₂ _ (by omega) (by omega)
theorem rdRect_read (d : Dev nD) (x : Fin 48) (y : Fin 512) :
    (rdM.access rdRect).read (Elt F) (landedD m ρ d) (ix2 x y)
      = xAt m ρ (yp d) (464 - 256 * (d.val / 2) + x.val) (512 * (d.val % 2) + y.val) := by
  show xAt m ρ (yp d) (464 - 256 * (d.val / 2) + (0 + 1 * x.val)) (512 * (d.val % 2) + (0 + 1 * y.val)) = _
  exact congrArg₂ _ (by omega) (by omega)

theorem oRect_emb (d : Dev nD) (k : Fin 16) (x : Fin 16) (y : Fin 512) (h : 256 * (d.val / 2) + 16 * k.val + x.val < 512) :
    (oM.access (oRect d k)).emb (ix2 x y) = (ix2 (⟨256 * (d.val / 2) + 16 * k.val + x.val, h⟩ : Fin 512) y : S512x512.Idx) := by
  have e := k0_off4_eq d k
  funext a
  match a with
  | ⟨0, _⟩ =>
    refine Fin.ext ?_
    show k0_off4 d (BitVec.ofNat 32 (16 * k.val)) 0 + 1 * x.val = _
    rw [congrFun e 0, Nat.one_mul]; rfl
  | ⟨1, _⟩ =>
    refine Fin.ext ?_
    show k0_off4 d (BitVec.ofNat 32 (16 * k.val)) 1 + 1 * y.val = _
    rw [congrFun e 1, Nat.one_mul]; exact Nat.zero_add _
theorem oDRect_emb (d : Dev nD) (x : Fin 48) (y : Fin 512) (h : 464 - 256 * (d.val / 2) + x.val < 512) :
    (oM.access (oDRect d)).emb (ix2 x y) = (ix2 (⟨464 - 256 * (d.val / 2) + x.val, h⟩ : Fin 512) y : S512x512.Idx) := by
  have e := k0_off7_eq d
  funext a
  match a with
  | ⟨0, _⟩ =>
    refine Fin.ext ?_
    show k0_off7 d 0 + 1 * x.val = _
    rw [congrFun e 0, Nat.one_mul]; rfl
  | ⟨1, _⟩ =>
    refine Fin.ext ?_
    show k0_off7 d 1 + 1 * y.val = _
    rw [congrFun e 1, Nat.one_mul]; exact Nat.zero_add _

/-- The sum a receive–add step stores. -/
def pay (d : Dev nD) (k : Fin 16) : Vec F S16x512 .f32 :=
  k0_pay1 ((xM.access (xRect d k)).read (Elt F) (xstg m ρ d)) ((r1M.access (r1Rect k)).read (Elt F) (landed1 m ρ d))
/-- The sum of the duplicated rows. -/
def payD (d : Dev nD) : Vec F S48x512 .f32 :=
  k0_pay20 ((xM.access (xDRect d)).read (Elt F) (xstg m ρ d)) ((rdM.access rdRect).read (Elt F) (landedD m ρ d))

theorem pay_at (d : Dev nD) (k : Fin 16) (x : Fin 16) (y : Fin 512) :
    pay m ρ d k (ix2 x y) = sumAt m ρ d (256 * (d.val / 2) + 16 * k.val + x.val) y.val := by
  unfold pay sumAt
  rw [pay1_at, xRect_read, r1Rect_read]
theorem payD_at (d : Dev nD) (x : Fin 48) (y : Fin 512) :
    payD m ρ d (ix2 x y) = sumAt m ρ d (464 - 256 * (d.val / 2) + x.val) y.val := by
  unfold payD sumAt
  rw [pay20_at, xDRect_read, rdRect_read]

theorem oRect_write (d : Dev nD) (k : Fin 16) (f : (cc0_stg1_0 : Ref sig .tc).ty.Contents (Elt F)) (w : (oRect d k).shape.Idx → Elt F .f32) (j : (oRect d k).shape.Idx) :
    (oM.access (oRect d k)).write (Elt F) f w Finset.univ ((oM.access (oRect d k)).emb j) = w j :=
  View.write_emb_of_mem (v := oM.access (oRect d k)) f w (Finset.mem_univ j)
theorem oDRect_write (d : Dev nD) (f : (cc0_stg1_0 : Ref sig .tc).ty.Contents (Elt F)) (w : (oDRect d).shape.Idx → Elt F .f32) (j : (oDRect d).shape.Idx) :
    (oM.access (oDRect d)).write (Elt F) f w Finset.univ ((oM.access (oDRect d)).emb j) = w j :=
  View.write_emb_of_mem (v := oM.access (oDRect d)) f w (Finset.mem_univ j)

/-- A receive–add step leaves its rows at the result. -/
theorem add_leaves (d : Dev nD) (k : Fin 16) (f : (cc0_stg1_0 : Ref sig .tc).ty.Contents (Elt F)) :
    ∀ p ∈ (oM.access (oRect d k)).set, (oM.access (oRect d k)).write (Elt F) f (pay m ρ d k) Finset.univ p = outAt m ρ d p := by
  intro p hp
  obtain ⟨j, rfl⟩ := View.exists_emb_of_mem_set _ hp
  obtain ⟨x, y, rfl⟩ : ∃ (x : Fin 16) (y : Fin 512), j = ix2 x y := ⟨_, _, eq_ix2 j⟩
  have hd := dev_lt d
  have hk := k.isLt
  have hx := x.isLt
  refine (oRect_write d k f _ _).trans ((pay_at m ρ d k x y).trans ?_)
  rw [oRect_emb d k x y (by omega)]
  exact (outAt_own m ρ d (ix2 (⟨256 * (d.val / 2) + 16 * k.val + x.val, by omega⟩ : Fin 512) y)
    (Or.inl (show (256 * (d.val / 2) + 16 * k.val + x.val) / 256 = d.val / 2 by omega))).symm

/-- The duplicated rows' receive–add step leaves its rows at the result. -/
theorem addD_leaves (d : Dev nD) (f : (cc0_stg1_0 : Ref sig .tc).ty.Contents (Elt F)) :
    ∀ p ∈ (oM.access (oDRect d)).set, (oM.access (oDRect d)).write (Elt F) f (payD m ρ d) Finset.univ p = outAt m ρ d p := by
  intro p hp
  obtain ⟨j, rfl⟩ := View.exists_emb_of_mem_set _ hp
  obtain ⟨x, y, rfl⟩ : ∃ (x : Fin 48) (y : Fin 512), j = ix2 x y := ⟨_, _, eq_ix2 j⟩
  have hd := dev_lt d
  have hx := x.isLt
  refine (oDRect_write d f _ _).trans ((payD_at m ρ d x y).trans ?_)
  rw [oDRect_emb d x y (by omega)]
  exact (outAt_own m ρ d (ix2 (⟨464 - 256 * (d.val / 2) + x.val, by omega⟩ : Fin 512) y) (Or.inr (show 208 ≤ (464 - 256 * (d.val / 2) + x.val) % 256 by omega))).symm

/-- On the rows a device forwards, the device across has the same result. -/
theorem outAt_across (d : Dev nD) (k : Fin 13) : ∀ p ∈ (oS d k).view.set, outAt m ρ d p = outAt m ρ (xp d) p := by
  intro p hp
  have hr := (mem_oS d k p).1 hp
  have hd := dev_lt d
  have hk := k.isLt
  show ite _ _ _ = ite _ _ _
  rw [if_pos (Or.inl (by omega)), if_neg (by rw [xp_row]; omega), xp_xp]

/-- A forward leaves the rows on the device across at its result. -/
theorem send2_lands (d : Dev nD) (k : Fin 13) (fd : (cc0_stg1_0 : Ref sig .tc).ty.Contents (Elt F)) :
    ∀ p ∈ (oS d k).view.set, (oS d k).view.write (Elt F) fd ((oS d k).view.read (Elt F) (outAt m ρ d)) Finset.univ p = outAt m ρ (xp d) p := by
  intro p hp
  rw [← outAt_across m ρ d k p hp]
  obtain ⟨j, rfl⟩ := View.exists_emb_of_mem_set _ hp
  exact View.write_emb_of_mem (v := (oS d k).view) fd ((oS d k).view.read (Elt F) (outAt m ρ d)) (Finset.mem_univ j)

end Cert.ScatterProof

end
-- ==== Proof.Schedule.lean ====
/-
The protocol: the kernel's cells by kind, what each cell's signal hands over, and what each device owes.

A device uses four arrays of sixteen transfer semaphores (sends and receives of the two rounds), the barrier semaphore and
the two semaphores of the duplicated rows. Every cell runs one round. The barrier has two duties, one per neighbour, and
each hands over the places the neighbour is ready to receive in; a send cell hands the source back, a receive cell hands
the landed rows over.
-/
module

public import proofs.«01_k».proof.Proof.Content

@[expose] public section

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The ghost algebra of the protocol's rounds, duties named by a bit. -/
abbrev UB : Type := URounds (GSem nD τ sig) Bool
/-- The pipeline's algebra and the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells by kind -/

/-- The kinds of cell a device has: four arrays of sixteen (first round's sends and receives, second round's sends and
    receives), then the barrier, the duplicated rows' send and their receive. -/
abbrev Kd : Type := (Fin 4 × Fin 16) ⊕ Fin 3

abbrev arr : Fin 4 → DmaSems sig S16
  | 0 => cc0_scratch2 | 1 => cc0_scratch3 | 2 => cc0_scratch4 | 3 => cc0_scratch5

/-- The semaphore of a kind. -/
abbrev csem : Kd → SemLoc sig
  | .inl (a, i) => .dma (semAt (arr a) i)
  | .inr 0 => .reg barS
  | .inr 1 => .dma cc0_scratch6.sem
  | .inr 2 => .dma cc0_scratch7.sem

set_option maxRecDepth 16000 in
theorem csem_inj : Function.Injective csem := by
  have h : ∀ k k' : Kd, csem k = csem k' → k = k' := by decide +kernel
  exact fun k k' => h k k'

/-- The kind of a semaphore, if the protocol uses it. -/
def kindOf (s : SemLoc sig) : Option Kd :=
  open Classical in if h : ∃ k, csem k = s then some h.choose else none

theorem kindOf_csem (k : Kd) : kindOf (csem k) = some k := by
  unfold kindOf
  have h : ∃ k', csem k' = csem k := ⟨k, rfl⟩
  rw [dif_pos h]
  exact congrArg some (csem_inj h.choose_spec)
theorem kindOf_none {s : SemLoc sig} (h : ∀ k, csem k ≠ s) : kindOf s = none := dif_neg fun ⟨k, hk⟩ => h k hk

/-- Device `ck.1`'s cell of kind `ck.2`. -/
abbrev kcell (ck : Dev nD × Kd) : GSem nD τ sig := ((ck.1 : Thread nD τ), csem ck.2)

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- The signal count of a chunk and of the duplicated rows. -/
abbrev N16 : ℕ := (r1S 0).view.dmaCredit
abbrev N48 : ℕ := rdM.view.dmaCredit
theorem N16_pos : 0 < N16 := View.dmaCredit_pos _ (by decide)
theorem N48_pos : 0 < N48 := View.dmaCredit_pos _ (by decide)

/-! ## What changes hands -/

/-- Source rows of a first-round send, at the share lent to it. -/
def xPc (c : Dev nD) (i : Fin 16) : sProp 𝕄 :=
  (xS c i).view.loc (c : Thread nD τ) ↦[(xS c i).view.set]{fullShare.right} xstg m ρ c
/-- Source rows of the duplicated rows' send. -/
def xDp (c : Dev nD) : sProp 𝕄 :=
  (xD c).view.loc (c : Thread nD τ) ↦[(xD c).view.set]{fullShare.right} xstg m ρ c
/-- Chunk `i` of device `c`'s landing buffer, holding `f`. -/
def r1P (c : Dev nD) (i : Fin 16) (f : (cc0_scratch0 : Ref sig .tc).ty.Contents (Elt F)) : sProp 𝕄 :=
  (r1S i).view.loc (c : Thread nD τ) ↦[(r1S i).view.set]{fullShare} f
/-- Device `c`'s duplicated rows' buffer, holding `f`. -/
def rdP (c : Dev nD) (f : (cc0_scratch1 : Ref sig .tc).ty.Contents (Elt F)) : sProp 𝕄 :=
  rdM.view.loc (c : Thread nD τ) ↦[rdM.view.set]{fullShare} f
/-- On device `c`, the result rows that device `d` forwards in chunk `i`, holding `f`. -/
def oP (c d : Dev nD) (i : Fin 13) (f : (cc0_stg1_0 : Ref sig .tc).ty.Contents (Elt F)) : sProp 𝕄 :=
  (oS d i).view.loc (c : Thread nD τ) ↦[(oS d i).view.set]{fullShare} f

instance xPc_storable (c : Dev nD) (i : Fin 16) : BI.Storable (upEmb : UEmb _ 𝕄) (xPc m ρ c i) := by unfold xPc; infer_instance
instance xDp_storable (c : Dev nD) : BI.Storable (upEmb : UEmb _ 𝕄) (xDp m ρ c) := by unfold xDp; infer_instance
instance r1P_storable (c : Dev nD) (i : Fin 16) (f) : BI.Storable (upEmb : UEmb _ 𝕄) (r1P (F := F) c i f) := by unfold r1P; infer_instance
instance rdP_storable (c : Dev nD) (f) : BI.Storable (upEmb : UEmb _ 𝕄) (rdP (F := F) c f) := by unfold rdP; infer_instance
instance oP_storable (c d : Dev nD) (i : Fin 13) (f) : BI.Storable (upEmb : UEmb _ 𝕄) (oP (F := F) c d i f) := by unfold oP; infer_instance

/-- What the peer's signal hands device `c`: the peer's landing buffers. -/
def barY (c : Dev nD) : sProp 𝕄 :=
  iprop((bigSep Finset.univ fun i : Fin 16 => iprop(∃ f, r1P (F := F) (yp c) i f)) ∗ ∃ f, rdP (F := F) (yp c) f)
/-- What the signal of the device across hands device `c`: the rows of its result that `c` makes. -/
def barX (c : Dev nD) : sProp 𝕄 := bigSep Finset.univ fun i : Fin 13 => iprop(∃ f, oP (F := F) (xp c) c i f)

instance barY_storable (c : Dev nD) : BI.Storable (upEmb : UEmb _ 𝕄) (barY (F := F) c) := by unfold barY; infer_instance
instance barX_storable (c : Dev nD) : BI.Storable (upEmb : UEmb _ 𝕄) (barX (F := F) c) := by unfold barX; infer_instance

/-- What a cell of a kind hands over with duty `d`. -/
def kpay (c : Dev nD) (k : Kd) (d : Bool) : sProp 𝕄 :=
  match k with
  | .inl (a, i) =>
    if a = 0 then xPc m ρ c i
    else if a = 1 then r1P c i (landed1 m ρ c)
    else if h : i.val < 13 then (if a = 2 then oP c c ⟨i.val, h⟩ (outAt m ρ c) else oP c (xp c) ⟨i.val, h⟩ (outAt m ρ c))
    else iprop(emp)
  | .inr 0 => if d then barX c else barY c
  | .inr 1 => xDp m ρ c
  | .inr 2 => rdP c (landedD m ρ c)

instance kpay_storable (c : Dev nD) (k : Kd) (d : Bool) : BI.Storable (upEmb : UEmb _ 𝕄) (kpay m ρ c k d) := by
  rcases k with ⟨a, i⟩ | k
  · unfold kpay; (repeat' split) <;> infer_instance
  · fin_cases k
    · show BI.Storable _ (if d then barX c else barY c); split <;> infer_instance
    · exact xDp_storable m ρ c
    · exact rdP_storable c _

/-- The duties of a kind: the barrier one per neighbour, a used transfer cell one. -/
def kduties : Kd → Finset Bool
  | .inl (a, i) => if a.val < 2 ∨ i.val < 13 then {false} else ∅
  | .inr 0 => Finset.univ
  | .inr _ => {false}
/-- The units a duty of a kind pays. -/
def kamt : Kd → ℕ
  | .inl _ => N16
  | .inr 0 => 1
  | .inr _ => N48
theorem kamt_pos (k : Kd) : 0 < kamt k := by
  rcases k with k | k
  · exact N16_pos
  · fin_cases k
    · exact Nat.one_pos
    · exact N48_pos
    · exact N48_pos

/-- The schedule: one round at every cell of the protocol. -/
def sched : Rounds.Schedule (GSem nD τ sig) Bool 𝕄 where
  duties g r := if r = 0 ∧ g.1.2 = .tc then (match kindOf g.2 with | some k => kduties k | none => ∅) else ∅
  unitless _ := False
  amount g _ _ := match kindOf g.2 with | some k => kamt k | none => 1
  payload g _ d := match kindOf g.2 with | some k => kpay m ρ g.1.1 k d | none => iprop(emp)
  amount_pos g _ _ _ := by
    show 0 < (match kindOf g.2 with | some k => kamt k | none => 1)
    cases kindOf g.2 with
    | some k => exact kamt_pos k
    | none => exact Nat.one_pos

instance sched_payload_storable (g : GSem nD τ sig) (r : ℕ) (d : Bool) : BI.Storable (upEmb : UEmb _ 𝕄) ((sched (F := F) m ρ).payload g r d) := by
  show BI.Storable _ (match kindOf g.2 with | some k => kpay m ρ g.1.1 k d | none => iprop(emp))
  cases kindOf g.2 with
  | some k => exact kpay_storable m ρ _ k d
  | none => exact (inferInstance : BI.Storable (upEmb : UEmb _ 𝕄) (iprop(emp) : sProp 𝕄))

theorem duties_k (c : Dev nD) (k : Kd) : (sched (F := F) m ρ).duties (kcell (c, k)) 0 = kduties k := by
  show (if 0 = 0 ∧ (Proc.tc : Proc τ) = .tc then (match kindOf (csem k) with | some k => kduties k | none => ∅) else ∅) = _
  rw [if_pos ⟨rfl, rfl⟩, kindOf_csem]
theorem duties_later (g : GSem nD τ sig) : ∀ r, 1 ≤ r → (sched (F := F) m ρ).duties g r = ∅ :=
  fun r hr => if_neg fun h => by omega
theorem amount_k (c : Dev nD) (k : Kd) (d : Bool) : (sched (F := F) m ρ).amount (kcell (c, k)) 0 d = kamt k := by
  show (match kindOf (csem k) with | some k => kamt k | none => 1) = _
  rw [kindOf_csem]
theorem payload_k (c : Dev nD) (k : Kd) (d : Bool) : (sched (F := F) m ρ).payload (kcell (c, k)) 0 d = kpay m ρ c k d := by
  show (match kindOf (csem k) with | some k => kpay m ρ c k d | none => iprop(emp)) = _
  rw [kindOf_csem]
theorem expect_k (c : Dev nD) (k : Kd) : (sched (F := F) m ρ).expect (kcell (c, k)) 0 = (kduties k).card * kamt k := by
  unfold Schedule.expect Schedule.amountOf
  rw [duties_k, Finset.sum_congr rfl fun d _ => amount_k m ρ c k d, Finset.sum_const, smul_eq_mul]
theorem rest_k (c : Dev nD) (k : Kd) :
    bigSep ((sched (F := F) m ρ).duties (kcell (c, k)) 0 \ ∅) (fun d => (sched (F := F) m ρ).payload (kcell (c, k)) 0 d)
      = bigSep (kduties k) fun d => kpay m ρ c k d := by
  rw [Finset.sdiff_empty, duties_k]
  exact bigSep_congr fun d _ => payload_k m ρ c k d

/-! ## Levels and debts -/

/-- A wait may be made while owing cells of a higher level only: barrier below the first round's receives below the second
    round's; staging and send cells lowest. -/
def klv : Kd → ℕ
  | .inl (a, _) => if a = 1 then 2 else if a = 3 then 3 else 0
  | .inr 0 => 1
  | .inr 1 => 0
  | .inr 2 => 2
def L (g : GSem nD τ sig) : Finset Unit := if g.1.2 = .tc then {()} else ∅
def lv (g : GSem nD τ sig) (_ : Unit) : ℕ := match kindOf g.2 with | some k => klv k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Kd) : lv (kcell (c, k)) () = klv k := by
  show (match kindOf (csem k) with | some k => klv k | none => 0) = _
  rw [kindOf_csem]

/-- The neighbour a debt is to: the peer (`false`) or the device across (`true`). -/
def nb : Bool → Dev nD → Dev nD
  | false => yp
  | true => xp
theorem nb_nb (b : Bool) (c : Dev nD) : nb b (nb b c) = c := by
  cases b
  · exact yp_yp c
  · exact xp_xp c

/-- What device `c` owes under a list of debts (neighbour, kind), the first one outermost. -/
def debt (c : Dev nD) : List (Bool × Kd) → CellTallies nD τ sig Unit
  | [] => 0
  | e :: l => debt c l + tallyAt (kcell (nb e.1 c, e.2)) () (kamt e.2)

theorem debt_pos {c : Dev nD} {l : List (Bool × Kd)} {g : GSem nD τ sig} {u : Unit} (h : 0 < debt c l g u) :
    ∃ e ∈ l, g = kcell (nb e.1 c, e.2) := by
  induction l with
  | nil => exact absurd h (Nat.lt_irrefl 0)
  | cons e l ih =>
    change 0 < (debt c l + tallyAt (kcell (nb e.1 c, e.2)) () (kamt e.2)) g u at h
    rw [Pi.add_apply, Finsupp.add_apply] at h
    by_cases h' : 0 < debt c l g u
    · obtain ⟨e', he, hg⟩ := ih h'
      exact ⟨e', List.mem_cons_of_mem _ he, hg⟩
    · exact ⟨e, List.mem_cons_self, (Pipeline.tallyAt_pos (show 0 < tallyAt (kcell (nb e.1 c, e.2)) () (kamt e.2) g u by omega)).1⟩

/-- A device may wait on a semaphore while every debt left is at a higher level. -/
theorem mayWait (c : Dev nD) (sm : SemLoc sig) (l : List (Bool × Kd)) (h : ∀ e ∈ l, lv ((c : Thread nD τ), sm) () < klv e.2) :
    (levAts L lv : sProp 𝕄) ⊢ MayWait (c : Thread nD τ) sm () (debt c l) :=
  MayOwe.of_cut (L := L) (lev := lv) (lv ((c : Thread nD τ), sm) ())
    (fun p hp => by rw [Finset.mem_singleton.mp hp, L_tc]; exact Finset.mem_singleton_self _)
    (fun g u hg => by obtain ⟨e, he, rfl⟩ := debt_pos hg; exact Finset.mem_singleton_self _)
    (fun p hp => by rw [Finset.mem_singleton.mp hp])
    (fun g u hg => by
      obtain ⟨e, he, rfl⟩ := debt_pos hg
      show _ < lv (kcell (nb e.1 c, e.2)) ()
      rw [lv_k]; exact h e he)

/-- The debts of the three phases that pay them. -/
abbrev kR2 (i : Fin 13) : Kd := .inl (3, i.castLE (by omega))
abbrev kS2 (i : Fin 13) : Kd := .inl (2, i.castLE (by omega))
abbrev kR1 (i : Fin 16) : Kd := .inl (1, i)
abbrev kS1 (i : Fin 16) : Kd := .inl (0, i)
abbrev kB : Kd := .inr 0
abbrev kSD : Kd := .inr 1
abbrev kRD : Kd := .inr 2

abbrev owe2 (l : List (Fin 13)) : List (Bool × Kd) := l.map fun i => (true, kR2 i)
abbrev oweD : List (Bool × Kd) := (false, kRD) :: owe2 all13
abbrev owe1 (l : List (Fin 16)) : List (Bool × Kd) := (l.map fun i => (false, kR1 i)) ++ oweD
/-- Everything a device owes at launch, in the order it pays. -/
abbrev oweAll : List (Bool × Kd) := (false, kB) :: (true, kB) :: owe1 all16

end Cert.ScatterProof

end
-- ==== Proof.Steps.lean ====
/-
One lemma per kind of step: what it takes and what it gives, for a symbolic chunk.
-/
module

public import proofs.«01_k».proof.Proof.Schedule

@[expose] public section

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`'s core. -/
abbrev wpc (c : Dev nD) (p : KProg F PUnit) (Q : PUnit → sProp 𝕄) : sProp 𝕄 :=
  wp frame (wpE (defs₀ (F := F)) 𝒱₀ (c : Thread nD τ) none) Set.univ p Q

/-- What every step may use: each cell's invariant, that each cell has reached its round, and the levels. -/
def ctx (K : Dev nD × Kd → ℕ) : sProp 𝕄 :=
  iprop((bigSep Finset.univ fun ck : Dev nD × Kd => cellInv ER (sched m ρ) (K ck) (kcell ck))
    ∗ (bigSep Finset.univ fun ck : Dev nD × Kd => reached ER (kcell ck) 0) ∗ levAts L lv)

instance ctx_persistent (K : Dev nD × Kd → ℕ) : BI.Persistent (ctx m ρ K) := by unfold ctx; infer_instance

theorem inv_of (K : Dev nD × Kd → ℕ) (ck : Dev nD × Kd) :
    (bigSep Finset.univ fun ck : Dev nD × Kd => (cellInv ER (sched m ρ) (K ck) (kcell ck) : sProp 𝕄)) ⊢ cellInv ER (sched m ρ) (K ck) (kcell ck) :=
  bigSep_elim (Finset.mem_univ ck)
theorem reached_of (ck : Dev nD × Kd) :
    (bigSep Finset.univ fun ck : Dev nD × Kd => (reached ER (kcell ck) 0 : sProp 𝕄)) ⊢ reached ER (kcell ck) 0 :=
  bigSep_elim (Finset.mem_univ ck)
theorem ctx_inv (K : Dev nD × Kd → ℕ) (ck : Dev nD × Kd) : ctx m ρ K ⊢ cellInv ER (sched m ρ) (K ck) (kcell ck) := by
  unfold ctx; iintro ⟨H, -, -⟩
  iapply (inv_of m ρ K ck); iexact H
theorem ctx_reached (K : Dev nD × Kd → ℕ) (ck : Dev nD × Kd) : ctx m ρ K ⊢ reached ER (kcell ck) 0 := by
  unfold ctx; iintro ⟨-, H, -⟩
  iapply (reached_of (F := F) ck); iexact H
theorem ctx_lev (K : Dev nD × Kd → ℕ) : ctx m ρ K ⊢ levAts L lv := by
  unfold ctx; iintro ⟨-, -, H⟩; iexact H

/-- Device `c` owes the debts of `l`, whatever it has waited on. -/
def Ow (c : Dev nD) (l : List (Bool × Kd)) : sProp 𝕄 := iprop(∃ W, owes (c : Thread nD τ) (debt c l) W)

variable (K : Dev nD × Kd → ℕ)

/-- A cell whose every round is over, or that has none, gives its counter back at zero. -/
theorem close_k (c : Dev nD) (k : Kd) (R : ℕ) (hR : ∀ r, R ≤ r → (sched (F := F) m ρ).duties (kcell (c, k)) r = ∅) :
    iprop(ctx m ρ K ∗ atPos ER (kcell (c, k)) R ∅ 0) ⊢ |={Set.univ}=> (semVal (kcell (c, k)) 0 : sProp 𝕄) :=
  (sep_mono_left (ctx_inv m ρ K (c, k))).trans (Rounds.cell_close ER (sched m ρ) (Set.mem_univ (K (c, k))) (fun h => h) hR)

/-- A wait for the whole round of a cell with one duty: the payload comes, and the cell closes. -/
theorem wait_k (c : Dev nD) (k : Kd) (hd : kduties k = {false}) {w : TpuEff nD τ sig (Elt F) Λ₀ .tc PUnit}
    (hw : ∀ Kp : PUnit → sProp 𝕄, wpE (defs₀ (F := F)) 𝒱₀ (c : Thread nD τ) none Set.univ w Kp = waitSpec (c : Thread nD τ) Set.univ (csem k) (kamt k) Kp)
    (l : List (Bool × Kd)) (hl : ∀ e ∈ l, klv k < klv e.2) (kont : PUnit → KProg F PUnit) (Q : PUnit → sProp 𝕄) :
    iprop(ctx m ρ K ∗ cred (tallyAt (kcell (c, k)) () (kamt k)) ∗ atPos ER (kcell (c, k)) 0 ∅ 0 ∗ Ow c l)
      ⊢ iprop(((Ow c l ∗ semVal (kcell (c, k)) 0 ∗ kpay m ρ c k false) -∗ wpc c (kont ⟨⟩) Q) -∗ wpc c (.op w kont) Q) := by
  unfold Ow
  iintro ⟨#HC, Hcr, Hat, ⟨%W, HO⟩⟩ Hk
  iapply (Rounds.wp_wait_rest_token 𝒱₀ ER (sched m ρ) (c : Thread nD τ) none (κ := K (c, k)) (sm := csem k) (k' := kamt k)
      hw (Set.mem_univ _) () (O := debt c l) (W := W) (R := 0) (m := 0) (T := ∅)
      (by rw [show (sched m ρ).expect ((c : Thread nD τ), csem k) 0 = _ from expect_k m ρ c k, hd, Finset.card_singleton]; omega)) $$ [Hcr HO Hat]
  · isplitr; · iapply (ctx_inv m ρ K (c, k)); iexact HC
    isplitl [Hcr]; · iexact Hcr
    isplitl [HO]; · iexact HO
    isplitr
    · iapply (mayWait c (csem k) l (fun e he => by rw [show lv ((c : Thread nD τ), csem k) () = klv k from lv_k c k]; exact hl e he))
      iapply (ctx_lev m ρ K); iexact HC
    iexact Hat
  iintro ⟨HO, Hat, -, Hpay⟩
  ihave Hp := (Entails.of_eq ((rest_k m ρ c k).trans (by rw [hd, bigSep_singleton]))) $$ Hpay
  imod (close_k m ρ K c k (0 + 1) (duties_later m ρ (kcell (c, k)))) $$ [Hat] with Hz
  · isplitr; · iexact HC
    iexact Hat
  iapply Hk
  isplitl [HO]; · iexists _; iexact HO
  isplitl [Hz]; · iexact Hz
  iexact Hp

/-- The same for a wait on a transfer semaphore, by the view whose size it counts. -/
theorem wait_dma (c : Dev nD) (k : Kd) (hd : kduties k = {false}) {sem : DmaSem sig} {sp sp' : Space} {s s' : Shape} {e e' : EltTy}
    {src : Memref sig .tc sp' s' e'} {dst : Memref sig .tc sp s e} {hsrc : src.view.WordExact} {hdst : dst.view.WordExact}
    (hs : csem k = .dma sem) (hN : kamt k = dst.view.dmaCredit)
    (l : List (Bool × Kd)) (hl : ∀ e ∈ l, klv k < klv e.2) {kont : PUnit → KProg F PUnit} {Q : PUnit → sProp 𝕄} :
    iprop(ctx m ρ K ∗ cred (tallyAt (kcell (c, k)) () (kamt k)) ∗ atPos ER (kcell (c, k)) 0 ∅ 0 ∗ Ow c l)
      ⊢ iprop(((Ow c l ∗ semVal (kcell (c, k)) 0 ∗ kpay m ρ c k false) -∗ wpc c (kont ⟨⟩) Q)
          -∗ wpc c (.op (.waitDma2 sem src dst hsrc hdst) kont) Q) :=
  wait_k m ρ K c k hd (fun Kp => by rw [hs, hN]; exact wpE_waitDma2_eq 𝒱₀ (c : Thread nD τ) none Set.univ Kp) l hl kont Q

/-! ## The sends -/

/-- A first-round send of chunk `i`: the source rows are lent, the peer's chunk filled, the debt paid. -/
theorem send1_step (c : Dev nD) (i : Fin 16) (l : List (Bool × Kd)) (k : KProg F PUnit) (Q : PUnit → sProp 𝕄) :
    iprop(ctx m ρ K ∗ Ow c ((false, kR1 i) :: l) ∗ xPc m ρ c i ∗ (∃ f, r1P (F := F) (yp c) i f)
        ∗ dutyTok ER (kcell (c, kS1 i)) 0 false ∗ dutyTok ER (kcell (yp c, kR1 i)) 0 false)
      ⊢ iprop(((Ow c l ∗ cred (tallyAt (kcell (c, kS1 i)) () N16)) -∗ wpc c k Q) -∗ wpc c (send1 c i >>= fun _ => k) Q) := by
  unfold send1 Ow xPc r1P
  simp only [Prog.lift, Prog.bind_op, Prog.bind_ret]
  iintro ⟨#HC, ⟨%W, HO⟩, Hx, ⟨%f, Hr⟩, Ht1, Ht2⟩ Hk
  iapply (Rounds.wp_send_pointsTo 𝒱₀ ER (sched m ρ) (c : Thread nD τ) none (c' := (yp c : Thread nD τ)) (src := xS c i) (dst := r1S i)
    (sS := csem (kS1 i)) (sem := csem (kR1 i)) (κ₁ := K (c, kS1 i)) (κ₂ := K (yp c, kR1 i))
    (r₁ := 0) (r₂ := 0) (d₁ := false) (d₂ := false) (q := fullShare.right) (fs := xstg m ρ c) (fd := f)
    (by rw [show (sched m ρ).duties ((c : Thread nD τ), csem (kS1 i)) 0 = _ from duties_k m ρ c (kS1 i)]; exact Finset.mem_singleton_self _)
    (by rw [show (sched m ρ).duties ((yp c : Thread nD τ), csem (kR1 i)) 0 = _ from duties_k m ρ (yp c) (kR1 i)]; exact Finset.mem_singleton_self _)
    () () N16 rfl (amount_k m ρ c (kS1 i) false) (amount_k m ρ (yp c) (kR1 i) false) (debt c l) rfl (W := W)
    (by rw [show (sched m ρ).payload ((c : Thread nD τ), csem (kS1 i)) 0 false = _ from payload_k m ρ c (kS1 i) false]; exact BI.Entails.refl _)
    (by
      rw [show (sched m ρ).payload ((yp c : Thread nD τ), csem (kR1 i)) 0 false = _ from payload_k m ρ (yp c) (kR1 i) false]
      exact Entails.of_eq (pointsTo_congr (send1_lands m ρ c i f)))) $$ [HO Hx Hr Ht1 Ht2]
  · isplitr; · iapply (ctx_inv m ρ K (c, kS1 i)); iexact HC
    isplitr; · iapply (ctx_inv m ρ K (yp c, kR1 i)); iexact HC
    isplitl [Hx]; · iexact Hx
    isplitl [Hr]; · iexact Hr
    isplitl [HO]; · iexact HO
    isplitl [Ht1]; · iexact Ht1
    isplitr; · iapply (ctx_reached m ρ K (c, kS1 i)); iexact HC
    isplitl [Ht2]; · iexact Ht2
    iapply (ctx_reached m ρ K (yp c, kR1 i)); iexact HC
  iintro ⟨Hcr, HO⟩
  iapply Hk
  isplitl [HO]; · iexists W; iexact HO
  iexact Hcr

/-- The duplicated rows' send. -/
theorem sendD_step (c : Dev nD) (l : List (Bool × Kd)) (k : KProg F PUnit) (Q : PUnit → sProp 𝕄) :
    iprop(ctx m ρ K ∗ Ow c ((false, kRD) :: l) ∗ xDp m ρ c ∗ (∃ f, rdP (F := F) (yp c) f)
        ∗ dutyTok ER (kcell (c, kSD)) 0 false ∗ dutyTok ER (kcell (yp c, kRD)) 0 false)
      ⊢ iprop(((Ow c l ∗ cred (tallyAt (kcell (c, kSD)) () N48)) -∗ wpc c k Q) -∗ wpc c (sendD c >>= fun _ => k) Q) := by
  unfold sendD Ow xDp rdP
  simp only [Prog.lift, Prog.bind_op, Prog.bind_ret]
  iintro ⟨#HC, ⟨%W, HO⟩, Hx, ⟨%f, Hr⟩, Ht1, Ht2⟩ Hk
  iapply (Rounds.wp_send_pointsTo 𝒱₀ ER (sched m ρ) (c : Thread nD τ) none (c' := (yp c : Thread nD τ)) (src := xD c) (dst := rdM)
    (sS := csem kSD) (sem := csem kRD) (κ₁ := K (c, kSD)) (κ₂ := K (yp c, kRD))
    (r₁ := 0) (r₂ := 0) (d₁ := false) (d₂ := false) (q := fullShare.right) (fs := xstg m ρ c) (fd := f)
    (by rw [show (sched m ρ).duties ((c : Thread nD τ), csem kSD) 0 = _ from duties_k m ρ c kSD]; exact Finset.mem_singleton_self _)
    (by rw [show (sched m ρ).duties ((yp c : Thread nD τ), csem kRD) 0 = _ from duties_k m ρ (yp c) kRD]; exact Finset.mem_singleton_self _)
    () () N48 rfl (amount_k m ρ c kSD false) (amount_k m ρ (yp c) kRD false) (debt c l) rfl (W := W)
    (by rw [show (sched m ρ).payload ((c : Thread nD τ), csem kSD) 0 false = _ from payload_k m ρ c kSD false]; exact BI.Entails.refl _)
    (by
      rw [show (sched m ρ).payload ((yp c : Thread nD τ), csem kRD) 0 false = _ from payload_k m ρ (yp c) kRD false]
      exact Entails.of_eq (pointsTo_congr (sendD_lands m ρ c f)))) $$ [HO Hx Hr Ht1 Ht2]
  · isplitr; · iapply (ctx_inv m ρ K (c, kSD)); iexact HC
    isplitr; · iapply (ctx_inv m ρ K (yp c, kRD)); iexact HC
    isplitl [Hx]; · iexact Hx
    isplitl [Hr]; · iexact Hr
    isplitl [HO]; · iexact HO
    isplitl [Ht1]; · iexact Ht1
    isplitr; · iapply (ctx_reached m ρ K (c, kSD)); iexact HC
    isplitl [Ht2]; · iexact Ht2
    iapply (ctx_reached m ρ K (yp c, kRD)); iexact HC
  iintro ⟨Hcr, HO⟩
  iapply Hk
  isplitl [HO]; · iexists W; iexact HO
  iexact Hcr

theorem kpay_S2 (c : Dev nD) (i : Fin 13) (d : Bool) : kpay m ρ c (kS2 i) d = oP c c i (outAt m ρ c) := by
  show (if h : i.val < 13 then oP c c ⟨i.val, h⟩ (outAt m ρ c) else iprop(emp)) = _
  exact dif_pos i.isLt
theorem kpay_R2 (c : Dev nD) (i : Fin 13) (d : Bool) : kpay m ρ c (kR2 i) d = oP c (xp c) i (outAt m ρ c) := by
  show (if h : i.val < 13 then oP c (xp c) ⟨i.val, h⟩ (outAt m ρ c) else iprop(emp)) = _
  exact dif_pos i.isLt
theorem kduties_S2 (i : Fin 13) : kduties (kS2 i) = {false} := if_pos (Or.inr i.isLt)
theorem kduties_R2 (i : Fin 13) : kduties (kR2 i) = {false} := if_pos (Or.inr i.isLt)
theorem kduties_S1 (i : Fin 16) : kduties (kS1 i) = {false} := rfl
theorem kduties_R1 (i : Fin 16) : kduties (kR1 i) = {false} := rfl

/-- A forward of chunk `i`. -/
theorem send2_step (c : Dev nD) (i : Fin 13) (l : List (Bool × Kd)) (k : KProg F PUnit) (Q : PUnit → sProp 𝕄) :
    iprop(ctx m ρ K ∗ Ow c ((true, kR2 i) :: l) ∗ oP c c i (outAt m ρ c) ∗ (∃ f, oP (F := F) (xp c) c i f)
        ∗ dutyTok ER (kcell (c, kS2 i)) 0 false ∗ dutyTok ER (kcell (xp c, kR2 i)) 0 false)
      ⊢ iprop(((Ow c l ∗ cred (tallyAt (kcell (c, kS2 i)) () N16)) -∗ wpc c k Q) -∗ wpc c (send2 c i >>= fun _ => k) Q) := by
  unfold send2 Ow oP
  simp only [Prog.lift, Prog.bind_op, Prog.bind_ret]
  iintro ⟨#HC, ⟨%W, HO⟩, Hx, ⟨%f, Hr⟩, Ht1, Ht2⟩ Hk
  iapply (Rounds.wp_send_pointsTo 𝒱₀ ER (sched m ρ) (c : Thread nD τ) none (c' := (xp c : Thread nD τ)) (src := oS c i) (dst := oS c i)
    (sS := csem (kS2 i)) (sem := csem (kR2 i)) (κ₁ := K (c, kS2 i)) (κ₂ := K (xp c, kR2 i))
    (r₁ := 0) (r₂ := 0) (d₁ := false) (d₂ := false) (q := fullShare) (fs := outAt m ρ c) (fd := f)
    (by rw [show (sched m ρ).duties ((c : Thread nD τ), csem (kS2 i)) 0 = _ from duties_k m ρ c (kS2 i), kduties_S2]; exact Finset.mem_singleton_self _)
    (by rw [show (sched m ρ).duties ((xp c : Thread nD τ), csem (kR2 i)) 0 = _ from duties_k m ρ (xp c) (kR2 i), kduties_R2]; exact Finset.mem_singleton_self _)
    () () N16 rfl (amount_k m ρ c (kS2 i) false) (amount_k m ρ (xp c) (kR2 i) false) (debt c l) rfl (W := W)
    (by
      rw [show (sched m ρ).payload ((c : Thread nD τ), csem (kS2 i)) 0 false = _ from payload_k m ρ c (kS2 i) false, kpay_S2]
      exact BI.Entails.refl _)
    (by
      rw [show (sched m ρ).payload ((xp c : Thread nD τ), csem (kR2 i)) 0 false = _ from payload_k m ρ (xp c) (kR2 i) false, kpay_R2, xp_xp]
      exact Entails.of_eq (pointsTo_congr (send2_lands m ρ c i f)))) $$ [HO Hx Hr Ht1 Ht2]
  · isplitr; · iapply (ctx_inv m ρ K (c, kS2 i)); iexact HC
    isplitr; · iapply (ctx_inv m ρ K (xp c, kR2 i)); iexact HC
    isplitl [Hx]; · iexact Hx
    isplitl [Hr]; · iexact Hr
    isplitl [HO]; · iexact HO
    isplitl [Ht1]; · iexact Ht1
    isplitr; · iapply (ctx_reached m ρ K (c, kS2 i)); iexact HC
    isplitl [Ht2]; · iexact Ht2
    iapply (ctx_reached m ρ K (xp c, kR2 i)); iexact HC
  iintro ⟨Hcr, HO⟩
  iapply Hk
  isplitl [HO]; · iexists W; iexact HO
  iexact Hcr

/-! ## The closing waits -/

/-- A wait for chunk `i` of the second round: the rows made by the device across. -/
theorem recv2_step (c : Dev nD) (i : Fin 13) (k : KProg F PUnit) (Q : PUnit → sProp 𝕄) :
    iprop(ctx m ρ K ∗ Ow c [] ∗ cred (tallyAt (kcell (c, kR2 i)) () N16) ∗ atPos ER (kcell (c, kR2 i)) 0 ∅ 0)
      ⊢ iprop(((Ow c [] ∗ semVal (kcell (c, kR2 i)) 0 ∗ oP c (xp c) i (outAt m ρ c)) -∗ wpc c k Q) -∗ wpc c (recv2 c i >>= fun _ => k) Q) := by
  unfold recv2
  simp only [Prog.lift, Prog.bind_op, Prog.bind_ret]
  iintro ⟨#HC, HO, Hcr, Hat⟩ Hk
  iapply (wait_dma m ρ K c (kR2 i) (kduties_R2 i) (dst := oR c i) rfl rfl [] (fun e he => absurd he List.not_mem_nil)) $$ [Hcr Hat HO]
  · isplitr; · iexact HC
    isplitl [Hcr]; · iexact Hcr
    isplitl [Hat]; · iexact Hat
    iexact HO
  rw [kpay_R2]
  iexact Hk

/-- A wait for a first-round send to have left: its source rows are back. -/
theorem sent1_step (c : Dev nD) (i : Fin 16) (k : KProg F PUnit) (Q : PUnit → sProp 𝕄) :
    iprop(ctx m ρ K ∗ Ow c [] ∗ cred (tallyAt (kcell (c, kS1 i)) () N16) ∗ atPos ER (kcell (c, kS1 i)) 0 ∅ 0)
      ⊢ iprop(((Ow c [] ∗ semVal (kcell (c, kS1 i)) 0 ∗ xPc m ρ c i) -∗ wpc c k Q) -∗ wpc c (sent1 c i >>= fun _ => k) Q) := by
  unfold sent1
  simp only [Prog.lift, Prog.bind_op, Prog.bind_ret]
  iintro ⟨#HC, HO, Hcr, Hat⟩ Hk
  iapply (wait_dma m ρ K c (kS1 i) (kduties_S1 i) (dst := xS c i) rfl rfl [] (fun e he => absurd he List.not_mem_nil)) $$ [Hcr Hat HO]
  · isplitr; · iexact HC
    isplitl [Hcr]; · iexact Hcr
    isplitl [Hat]; · iexact Hat
    iexact HO
  iexact Hk

/-- A wait for a forward to have left: its rows are back. -/
theorem sent2_step (c : Dev nD) (i : Fin 13) (k : KProg F PUnit) (Q : PUnit → sProp 𝕄) :
    iprop(ctx m ρ K ∗ Ow c [] ∗ cred (tallyAt (kcell (c, kS2 i)) () N16) ∗ atPos ER (kcell (c, kS2 i)) 0 ∅ 0)
      ⊢ iprop(((Ow c [] ∗ semVal (kcell (c, kS2 i)) 0 ∗ oP c c i (outAt m ρ c)) -∗ wpc c k Q) -∗ wpc c (sent2 c i >>= fun _ => k) Q) := by
  unfold sent2
  simp only [Prog.lift, Prog.bind_op, Prog.bind_ret]
  iintro ⟨#HC, HO, Hcr, Hat⟩ Hk
  iapply (wait_dma m ρ K c (kS2 i) (kduties_S2 i) (dst := oS c i) rfl rfl [] (fun e he => absurd he List.not_mem_nil)) $$ [Hcr Hat HO]
  · isplitr; · iexact HC
    isplitl [Hcr]; · iexact Hcr
    isplitl [Hat]; · iexact Hat
    iexact HO
  rw [kpay_S2]
  iexact Hk

/-- The wait for the duplicated rows to have left, the program's last step. -/
theorem sentD_step (c : Dev nD) (Q : PUnit → sProp 𝕄) :
    iprop(ctx m ρ K ∗ Ow c [] ∗ cred (tallyAt (kcell (c, kSD)) () N48) ∗ atPos ER (kcell (c, kSD)) 0 ∅ 0)
      ⊢ iprop(((Ow c [] ∗ semVal (kcell (c, kSD)) 0 ∗ xDp m ρ c) -∗ |={Set.univ}=> Q ⟨⟩) -∗ wpc c (sentD c) Q) := by
  unfold sentD
  simp only [Prog.lift]
  iintro ⟨#HC, HO, Hcr, Hat⟩ Hk
  iapply (wait_dma m ρ K c kSD rfl (dst := xD c) rfl rfl [] (fun e he => absurd he List.not_mem_nil)) $$ [Hcr Hat HO]
  · isplitr; · iexact HC
    isplitl [Hcr]; · iexact Hcr
    isplitl [Hat]; · iexact Hat
    iexact HO
  iintro H
  simp only [wpc, wp_ret]
  iapply Hk; iexact H

/-! ## The receive–add steps -/

/-- The staged block of `x`, at the share kept for reading. -/
def xL (c : Dev nD) : sProp 𝕄 := ((c : Thread nD τ).loc cc0_stg0_0) ↦{fullShare.left} xstg m ρ c
/-- The result rows that step `i` stores, holding `f`. -/
def aP (c : Dev nD) (i : Fin 16) (f : (cc0_stg1_0 : Ref sig .tc).ty.Contents (Elt F)) : sProp 𝕄 :=
  (oM.access (oRect c i)).loc (c : Thread nD τ) ↦[(oM.access (oRect c i)).set]{fullShare} f
/-- The duplicated rows of the result, holding `f`. -/
def aD (c : Dev nD) (f : (cc0_stg1_0 : Ref sig .tc).ty.Contents (Elt F)) : sProp 𝕄 :=
  (oM.access (oDRect c)).loc (c : Thread nD τ) ↦[(oM.access (oDRect c)).set]{fullShare} f

/-- A receive–add step: the landed chunk comes, the device's rows are added, the sum is stored. -/
theorem add_step (c : Dev nD) (i : Fin 16) (l : List (Bool × Kd)) (hl : ∀ e ∈ l, 2 < klv e.2) (k : KProg F PUnit) (Q : PUnit → sProp 𝕄) :
    iprop(ctx m ρ K ∗ Ow c l ∗ xL m ρ c ∗ cred (tallyAt (kcell (c, kR1 i)) () N16) ∗ atPos ER (kcell (c, kR1 i)) 0 ∅ 0 ∗ (∃ f, aP (F := F) c i f))
      ⊢ iprop(((Ow c l ∗ xL m ρ c ∗ semVal (kcell (c, kR1 i)) 0 ∗ r1P c i (landed1 m ρ c) ∗ aP c i (outAt m ρ c)) -∗ wpc c k Q)
          -∗ wpc c (addStep c i >>= fun _ => k) Q) := by
  unfold addStep xL aP r1P
  simp only [Prog.lift, Prog.bind_op, Prog.bind_ret]
  iintro ⟨#HC, HO, Hx, Hcr, Hat, ⟨%f, Ho⟩⟩ Hk
  iapply (wait_dma m ρ K c (kR1 i) (kduties_R1 i) (dst := r1S i) rfl rfl l hl) $$ [Hcr Hat HO]
  · isplitr; · iexact HC
    isplitl [Hcr]; · iexact Hcr
    isplitl [Hat]; · iexact Hat
    iexact HO
  iintro ⟨HO, Hz, Hr⟩
  ihave Hr := (Entails.of_eq (show kpay m ρ c (kR1 i) false = ((r1M.access (r1Rect i)).loc (c : Thread nD τ) ↦[(r1M.access (r1Rect i)).set]{fullShare} landed1 m ρ c) from rfl)) $$ Hr
  iapply (wp_load_rect 𝒱₀ (c : Thread nD τ) none Set.univ (m := xM) (r := xRect c i) (Finset.subset_univ _)) $$ Hx; iintro Hx
  iapply (wp_load_rect 𝒱₀ (c : Thread nD τ) none Set.univ (m := r1M) (r := r1Rect i) (Finset.Subset.refl _)) $$ Hr; iintro Hr
  iapply (wp_load_rect 𝒱₀ (c : Thread nD τ) none Set.univ (m := oM) (r := oRect c i) (Finset.Subset.refl _)) $$ Ho; iintro Ho
  iapply (wp_store 𝒱₀ (c : Thread nD τ) none Set.univ (m := oM) (r := oRect c i) (Mk := Finset.univ) (w := pay m ρ c i) (S := (oM.access (oRect c i)).set)
    (View.setOn_subset_set _ _)) $$ Ho; iintro Ho
  ihave Ho := (Entails.of_eq (pointsTo_congr (add_leaves m ρ c i f))) $$ Ho
  iapply Hk
  isplitl [HO]; · iexact HO
  isplitl [Hx]; · iexact Hx
  isplitl [Hz]; · iexact Hz
  isplitl [Hr]; · iexact Hr
  iexact Ho

/-- The duplicated rows' receive–add step. -/
theorem addD_step (c : Dev nD) (k : KProg F PUnit) (Q : PUnit → sProp 𝕄) :
    iprop(ctx m ρ K ∗ Ow c [] ∗ xL m ρ c ∗ cred (tallyAt (kcell (c, kRD)) () N48) ∗ atPos ER (kcell (c, kRD)) 0 ∅ 0 ∗ (∃ f, aD (F := F) c f))
      ⊢ iprop(((Ow c [] ∗ xL m ρ c ∗ semVal (kcell (c, kRD)) 0 ∗ rdP c (landedD m ρ c) ∗ aD c (outAt m ρ c)) -∗ wpc c k Q)
          -∗ wpc c (addD c >>= fun _ => k) Q) := by
  unfold addD xL aD rdP
  simp only [Prog.lift, Prog.bind_op, Prog.bind_ret]
  iintro ⟨#HC, HO, Hx, Hcr, Hat, ⟨%f, Ho⟩⟩ Hk
  iapply (wait_dma m ρ K c kRD rfl (dst := rdM) rfl rfl [] (fun e he => absurd he List.not_mem_nil)) $$ [Hcr Hat HO]
  · isplitr; · iexact HC
    isplitl [Hcr]; · iexact Hcr
    isplitl [Hat]; · iexact Hat
    iexact HO
  iintro ⟨HO, Hz, Hr⟩
  ihave Hr := (Entails.of_eq (show kpay m ρ c kRD false = ((rdM.access rdRect).loc (c : Thread nD τ) ↦[rdM.view.set]{fullShare} landedD m ρ c) from rfl)) $$ Hr
  iapply (wp_load_rect 𝒱₀ (c : Thread nD τ) none Set.univ (m := xM) (r := xDRect c) (Finset.subset_univ _)) $$ Hx; iintro Hx
  iapply (wp_load_rect 𝒱₀ (c : Thread nD τ) none Set.univ (m := rdM) (r := rdRect) (by rw [View.set_whole]; exact Finset.subset_univ _)) $$ Hr; iintro Hr
  iapply (wp_load_rect 𝒱₀ (c : Thread nD τ) none Set.univ (m := oM) (r := oDRect c) (Finset.Subset.refl _)) $$ Ho; iintro Ho
  iapply (wp_store 𝒱₀ (c : Thread nD τ) none Set.univ (m := oM) (r := oDRect c) (Mk := Finset.univ) (w := payD m ρ c) (S := (oM.access (oDRect c)).set)
    (View.setOn_subset_set _ _)) $$ Ho; iintro Ho
  ihave Ho := (Entails.of_eq (pointsTo_congr (addD_leaves m ρ c f))) $$ Ho
  iapply Hk
  isplitl [HO]; · iexact HO
  isplitl [Hx]; · iexact Hx
  isplitl [Hz]; · iexact Hz
  isplitl [Hr]; · iexact Hr
  iexact Ho

end Cert.ScatterProof

end
-- ==== Proof.Carve.lean ====
/-
The buffers a device holds, cut into the pieces its steps use, and the rule for a list of steps.
-/
module

public import proofs.«01_k».proof.Proof.Steps

@[expose] public section

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Assertions over chunks -/

/-- Something held of each chunk of a sum of two kinds is held of both kinds. -/
theorem sum_eq {α β : Type} [Fintype α] [Fintype β] (Φ : α ⊕ β → sProp 𝕄) :
    bigSep Finset.univ Φ = iprop((bigSep Finset.univ fun a => Φ (.inl a)) ∗ bigSep Finset.univ fun b => Φ (.inr b)) := bigSep_univ_sum Φ

theorem ins_eq {α : Type} [DecidableEq α] {i : α} {s : Finset α} (h : i ∉ s) (Φ : α → sProp 𝕄) :
    bigSep (insert i s) Φ = iprop(Φ i ∗ bigSep s Φ) := bigSep_insert h
theorem union_eq {α : Type} [DecidableEq α] {s t : Finset α} (h : Disjoint s t) (Φ : α → sProp 𝕄) :
    bigSep (s ∪ t) Φ = iprop(bigSep s Φ ∗ bigSep t Φ) := bigSep_union h

/-- The last three chunks of the first round. -/
abbrev tail3 : Finset (Fin 16) := last3.toFinset
/-- A chunk of the second round, among those of the first. -/
abbrev up (i : Fin 13) : Fin 16 := i.castLE (by omega)

theorem up_inj : Function.Injective up := fun a b h => Fin.ext (congrArg (fun x : Fin 16 => x.val) h)

/-- Sixteen chunks are thirteen and three. -/
theorem split13 (Φ : Fin 16 → sProp 𝕄) :
    bigSep Finset.univ Φ = iprop((bigSep Finset.univ fun i : Fin 13 => Φ (up i)) ∗ bigSep tail3 Φ) := by
  have hU : (Finset.univ : Finset (Fin 16)) = (Finset.univ.map ⟨up, up_inj⟩) ∪ tail3 := by decide
  rw [hU, union_eq (by decide), bigSep_map]
  rfl

/-! ## A list of steps -/

/-- A list of steps, each turning one element's assertion and the state for the rest. -/
theorem wp_list {ι : Type} [DecidableEq ι] (c : Dev nD) (Γ : sProp 𝕄) [BI.Persistent Γ] (p : ι → KProg F PUnit) (St : List ι → sProp 𝕄)
    (A B : ι → sProp 𝕄) (Q : PUnit → sProp 𝕄)
    (hstep : ∀ i l k, iprop(Γ ∗ St (i :: l) ∗ A i) ⊢ iprop(((St l ∗ B i) -∗ wpc c k Q) -∗ wpc c (p i >>= fun _ => k) Q))
    (k : KProg F PUnit) (l : List ι) (hl : l.Nodup) :
    iprop(Γ ∗ St l ∗ bigSep l.toFinset A) ⊢ iprop(((St [] ∗ bigSep l.toFinset B) -∗ wpc c k Q) -∗ wpc c (steps p l k) Q) := by
  induction l with
  | nil =>
    rw [show steps p [] k = k from rfl]
    iintro ⟨-, HS, HA⟩ Hk
    iapply Hk
    isplitl [HS]; · iexact HS
    iexact HA
  | cons i l ih =>
    have hi : i ∉ l.toFinset := fun h => (List.nodup_cons.mp hl).1 (List.mem_toFinset.mp h)
    rw [List.toFinset_cons, ins_eq hi, ins_eq hi]
    rw [show steps p (i :: l) k = p i >>= fun _ => steps p l k from rfl]
    iintro ⟨#HG, HS, HA, HL⟩ Hk
    iapply (hstep i l (steps p l k)) $$ [HS HA]
    · isplitr; · iexact HG
      isplitl [HS]; · iexact HS
      iexact HA
    iintro ⟨HS, HB⟩
    iapply (ih (List.nodup_cons.mp hl).2) $$ [HS HL]
    · isplitr; · iexact HG
      isplitl [HS]; · iexact HS
      iexact HL
    iintro ⟨HS, HL⟩
    iapply Hk
    isplitl [HS]; · iexact HS
    isplitl [HB]; · iexact HB
    iexact HL

/-! ## The buffers -/

/-- The landing buffer's chunks. -/
def r1K (c : Dev nD) (i : Fin 16) : Finset (Idx ((c : Thread nD τ).loc cc0_scratch0)) := (r1S i).view.set

theorem mem_r1K (c : Dev nD) (i : Fin 16) (p : S256x512.Idx) : p ∈ r1K c i ↔ (p 0).val / 16 = i.val := mem_r1S i p

theorem r1K_all (c : Dev nD) : (Finset.univ : Finset (Idx ((c : Thread nD τ).loc cc0_scratch0))) = Finset.univ.biUnion (r1K c) := by
  ext p
  simp only [Finset.mem_univ, Finset.mem_biUnion, true_and, true_iff]
  have h0 : (p 0).val < 256 := lt2_0 (a := 256) (b := 512) p
  exact ⟨⟨(p 0).val / 16, by omega⟩, (mem_r1K c _ p).mpr rfl⟩

theorem r1K_disj (c : Dev nD) (i : Fin 16) (_ : i ∈ Finset.univ) (j : Fin 16) (_ : j ∈ Finset.univ) (h : i ≠ j) : Disjoint (r1K c i) (r1K c j) :=
  Finset.disjoint_left.mpr fun p hp hq => h (Fin.ext (((mem_r1K c i p).mp hp).symm.trans ((mem_r1K c j p).mp hq)))

/-- The landing buffer is its sixteen chunks. -/
theorem r1_cut (c : Dev nD) (f : (cc0_scratch0 : Ref sig .tc).ty.Contents (Elt F)) :
    ((((c : Thread nD τ).loc cc0_scratch0) ↦{fullShare} f : sProp 𝕄)) = bigSep Finset.univ fun i : Fin 16 => r1P c i f := by
  show (((c : Thread nD τ).loc cc0_scratch0) ↦[Finset.univ]{fullShare} f : sProp 𝕄) = _
  rw [r1K_all, pointsTo_biUnion _ _ (r1K_disj c)]
  rfl

/-- The duplicated rows' buffer is one piece. -/
theorem rd_cut (c : Dev nD) (f : (cc0_scratch1 : Ref sig .tc).ty.Contents (Elt F)) :
    ((((c : Thread nD τ).loc cc0_scratch1) ↦{fullShare} f : sProp 𝕄)) = rdP c f := by
  unfold rdP
  rw [View.set_whole]

/-- Where each send of the first round reads the block. -/
def xK (c : Dev nD) : Fin 16 ⊕ Unit → Finset (Idx ((c : Thread nD τ).loc cc0_stg0_0))
  | .inl i => (xS c i).view.set
  | .inr _ => (xD c).view.set

theorem xK_disj (c : Dev nD) (t : Fin 16 ⊕ Unit) (_ : t ∈ Finset.univ) (t' : Fin 16 ⊕ Unit) (_ : t' ∈ Finset.univ) (h : t ≠ t') :
    Disjoint (xK c t) (xK c t') := by
  have hc := dev_lt c
  refine Finset.disjoint_left.mpr fun p hp hq => ?_
  rcases t with i | u <;> rcases t' with j | v
  · have h1 := (mem_xS c i p).mp hp
    have h2 := (mem_xS c j p).mp hq
    exact h (congrArg _ (Fin.ext (by omega)))
  · have h1 := (mem_xS c i p).mp hp
    have h2 := (mem_xD c p).mp hq
    have := i.isLt
    omega
  · have h1 := (mem_xD c p).mp hp
    have h2 := (mem_xS c j p).mp hq
    have := j.isLt
    omega
  · exact h rfl

/-- The part of the lent share that no send reads. -/
def xRest (c : Dev nD) : sProp 𝕄 :=
  ((c : Thread nD τ).loc cc0_stg0_0) ↦[Finset.univ \ Finset.univ.biUnion (xK c)]{fullShare.right} xstg m ρ c

/-- The staged block: a share kept for reading, and the other share cut by the sends. -/
theorem x_cut (c : Dev nD) :
    ((((c : Thread nD τ).loc cc0_stg0_0) ↦{fullShare} xstg m ρ c : sProp 𝕄))
      = iprop(xL m ρ c ∗ ((bigSep Finset.univ fun i : Fin 16 => xPc m ρ c i) ∗ xDp m ρ c) ∗ xRest m ρ c) := by
  have h1 : ((((c : Thread nD τ).loc cc0_stg0_0) ↦[Finset.univ]{fullShare} xstg m ρ c : sProp 𝕄))
      = iprop((((c : Thread nD τ).loc cc0_stg0_0) ↦[Finset.univ]{fullShare.left} xstg m ρ c) ∗ ((c : Thread nD τ).loc cc0_stg0_0) ↦[Finset.univ]{fullShare.right} xstg m ρ c) :=
    BI.Entails.antisymm (pointsTo_share (PosShare.mem_left_op_right fullShare)).1 (pointsTo_share (PosShare.mem_left_op_right fullShare)).2
  have h2 : ((((c : Thread nD τ).loc cc0_stg0_0) ↦[Finset.univ]{fullShare.right} xstg m ρ c : sProp 𝕄))
      = iprop((((c : Thread nD τ).loc cc0_stg0_0) ↦[Finset.univ.biUnion (xK c)]{fullShare.right} xstg m ρ c) ∗ xRest m ρ c) :=
    BI.Entails.antisymm (pointsTo_split_subset (Finset.subset_univ _)).1 (pointsTo_split_subset (Finset.subset_univ _)).2
  have h3 : ((((c : Thread nD τ).loc cc0_stg0_0) ↦[Finset.univ.biUnion (xK c)]{fullShare.right} xstg m ρ c : sProp 𝕄))
      = iprop((bigSep Finset.univ fun i : Fin 16 => xPc m ρ c i) ∗ xDp m ρ c) := by
    rw [pointsTo_biUnion _ _ (xK_disj c), sum_eq]
    refine congrArg _ ?_
    rw [Finset.univ_unique, bigSep_singleton]
    rfl
  show (((c : Thread nD τ).loc cc0_stg0_0) ↦[Finset.univ]{fullShare} xstg m ρ c : sProp 𝕄) = _
  rw [h1, h2, h3]
  rfl

/-- The rows of the result: those a device makes, those the device across makes, and those both make. -/
def oK (c : Dev nD) : Fin 16 ⊕ (Fin 13 ⊕ Unit) → Finset (Idx ((c : Thread nD τ).loc cc0_stg1_0))
  | .inl i => (oM.access (oRect c i)).set
  | .inr (.inl i) => (oS (xp c) i).view.set
  | .inr (.inr _) => (oM.access (oDRect c)).set

theorem oK_inl (c : Dev nD) (i : Fin 16) (p : S512x512.Idx) : p ∈ oK c (.inl i) ↔ (p 0).val / 16 = 16 * (c.val / 2) + i.val := mem_oRect c i p
theorem oK_across (c : Dev nD) (i : Fin 13) (p : S512x512.Idx) : p ∈ oK c (.inr (.inl i)) ↔ (p 0).val / 16 = 16 * (1 - c.val / 2) + i.val := by
  rw [← xp_row]; exact mem_oS (xp c) i p
theorem oK_dup (c : Dev nD) (u : Unit) (p : S512x512.Idx) :
    p ∈ oK c (.inr (.inr u)) ↔ (464 - 256 * (c.val / 2) ≤ (p 0).val ∧ (p 0).val < 512 - 256 * (c.val / 2)) := mem_oDRect c p

theorem oK_disj (c : Dev nD) (t : Fin 16 ⊕ (Fin 13 ⊕ Unit)) (_ : t ∈ Finset.univ) (t' : Fin 16 ⊕ (Fin 13 ⊕ Unit)) (_ : t' ∈ Finset.univ) (h : t ≠ t') :
    Disjoint (oK c t) (oK c t') := by
  have hc := dev_lt c
  refine Finset.disjoint_left.mpr fun p hp hq => ?_
  rcases t with i | i | u <;> rcases t' with j | j | v
  · have h1 := (oK_inl c i p).mp hp; have h2 := (oK_inl c j p).mp hq
    exact h (congrArg _ (Fin.ext (by omega)))
  · have h1 := (oK_inl c i p).mp hp; have h2 := (oK_across c j p).mp hq
    have := i.isLt; have := j.isLt; omega
  · have h1 := (oK_inl c i p).mp hp; have h2 := (oK_dup c v p).mp hq
    have := i.isLt; omega
  · have h1 := (oK_across c i p).mp hp; have h2 := (oK_inl c j p).mp hq
    have := i.isLt; have := j.isLt; omega
  · have h1 := (oK_across c i p).mp hp; have h2 := (oK_across c j p).mp hq
    exact h (congrArg _ (congrArg _ (Fin.ext (by omega))))
  · have h1 := (oK_across c i p).mp hp; have h2 := (oK_dup c v p).mp hq
    have := i.isLt; omega
  · have h1 := (oK_dup c u p).mp hp; have h2 := (oK_inl c j p).mp hq
    have := j.isLt; omega
  · have h1 := (oK_dup c u p).mp hp; have h2 := (oK_across c j p).mp hq
    have := j.isLt; omega
  · exact h rfl

theorem oK_all (c : Dev nD) : (Finset.univ : Finset (Idx ((c : Thread nD τ).loc cc0_stg1_0))) = Finset.univ.biUnion (oK c) := by
  ext p
  simp only [Finset.mem_univ, Finset.mem_biUnion, true_and, true_iff]
  have hc := dev_lt c
  have h0 : (p 0).val < 512 := lt2_0 (a := 512) (b := 512) p
  by_cases h1 : (p 0).val / 256 = c.val / 2
  · exact ⟨.inl ⟨(p 0).val / 16 - 16 * (c.val / 2), by omega⟩, (oK_inl c _ p).mpr (show _ = _ + (_ - _) by omega)⟩
  · by_cases h2 : (p 0).val % 256 < 208
    · exact ⟨.inr (.inl ⟨(p 0).val / 16 - 16 * (1 - c.val / 2), by omega⟩), (oK_across c _ p).mpr (show _ = _ + (_ - _) by omega)⟩
    · exact ⟨.inr (.inr ()), (oK_dup c () p).mpr (by omega)⟩

/-- The result's buffer, cut by who makes which rows. -/
theorem o_cut (c : Dev nD) (f : (cc0_stg1_0 : Ref sig .tc).ty.Contents (Elt F)) :
    ((((c : Thread nD τ).loc cc0_stg1_0) ↦{fullShare} f : sProp 𝕄))
      = iprop((bigSep Finset.univ fun i : Fin 16 => aP c i f) ∗ (bigSep Finset.univ fun i : Fin 13 => oP c (xp c) i f) ∗ aD c f) := by
  show (((c : Thread nD τ).loc cc0_stg1_0) ↦[Finset.univ]{fullShare} f : sProp 𝕄) = _
  rw [oK_all, pointsTo_biUnion _ _ (oK_disj c), sum_eq, sum_eq]
  refine congrArg _ (congrArg _ ?_)
  rw [Finset.univ_unique, bigSep_singleton]
  rfl

/-- The rows a step stores are the rows its forward sends. -/
theorem aP_up (c : Dev nD) (i : Fin 13) (f : (cc0_stg1_0 : Ref sig .tc).ty.Contents (Elt F)) : (aP c (up i) f : sProp 𝕄) = oP c c i f := by
  have h : (oM.access (oRect c (up i))).set = (oS c i).view.set := by
    ext p
    exact (mem_oRect c (up i) p).trans (mem_oS c i p).symm
  unfold aP oP
  rw [h]

end Cert.ScatterProof

end
-- ==== Proof.Body.lean ====
/-
The whole body on one device: the handshake, then the loops, each by its step's lemma.
-/
module

public import proofs.«01_k».proof.Proof.Carve

@[expose] public section

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-! ## The handshake -/

theorem kpay_BY (c : Dev nD) : kpay m ρ c kB false = barY (F := F) c := rfl
theorem kpay_BX (c : Dev nD) : kpay m ρ c kB true = barX (F := F) c := rfl

/-- The barrier's round hands over what both neighbours give. -/
theorem bar_pay (c : Dev nD) : (bigSep (kduties kB) fun d => kpay m ρ c kB d) = iprop(barY (F := F) c ∗ barX c) := by
  show bigSep (Finset.univ : Finset Bool) _ = _
  rw [show (Finset.univ : Finset Bool) = insert false {true} by decide, ins_eq (by decide), bigSep_singleton]
  rfl

theorem hello_lev (c : Dev nD) : ∀ e ∈ owe1 all16, lv ((c : Thread nD τ), csem kB) () < klv e.2 := by
  rw [show lv ((c : Thread nD τ), csem kB) () = klv kB from lv_k c kB]
  decide

/-- The handshake: each neighbour is handed the places it sends into, and each neighbour's come in return. -/
theorem hello_step (c : Dev nD) (k : KProg F PUnit) (Q : PUnit → sProp 𝕄) :
    iprop(ctx m ρ K ∗ Ow c oweAll ∗ barY (F := F) (yp c) ∗ barX (F := F) (xp c)
        ∗ dutyTok ER (kcell (yp c, kB)) 0 false ∗ dutyTok ER (kcell (xp c, kB)) 0 true
        ∗ cred (tallyAt (kcell (c, kB)) () 2) ∗ atPos ER (kcell (c, kB)) 0 ∅ 0)
      ⊢ iprop(((Ow c (owe1 all16) ∗ semVal (kcell (c, kB)) 0 ∗ barY (F := F) c ∗ barX (F := F) c) -∗ wpc c k Q) -∗ wpc c (hello c k) Q) := by
  unfold hello semSignalWord semWaitWord Ow
  simp only [Prog.bind_op, Prog.bind_ret]
  iintro ⟨#HC, ⟨%W, HO⟩, HY, HX, Ht1, Ht2, Hcr, Hat⟩ Hk
  iapply (Rounds.wp_signal 𝒱₀ ER (sched m ρ) (c : Thread nD τ) none (dst := (yp c : Thread nD τ)) (κ := K (yp c, kB)) (r := 0)
      (d := false) (by rw [show (sched m ρ).duties ((yp c : Thread nD τ), csem kB) 0 = _ from duties_k m ρ (yp c) kB]; exact Finset.mem_univ _)
      ((amount_k m ρ (yp c) kB false).trans (by decide)) () (debt c ((true, kB) :: owe1 all16)) rfl (W := W)) $$ [HO Ht1 HY]
  · isplitr; · iapply (ctx_inv m ρ K (yp c, kB)); iexact HC
    isplitl [HO]; · iexact HO
    isplitl [Ht1]; · iexact Ht1
    isplitl [HY]
    · rw [show (sched m ρ).payload ((yp c : Thread nD τ), csem kB) 0 false = _ from payload_k m ρ (yp c) kB false, kpay_BY]
      iexact HY
    iapply (ctx_reached m ρ K (yp c, kB)); iexact HC
  iintro HO
  iapply (Rounds.wp_signal 𝒱₀ ER (sched m ρ) (c : Thread nD τ) none (dst := (xp c : Thread nD τ)) (κ := K (xp c, kB)) (r := 0)
      (d := true) (by rw [show (sched m ρ).duties ((xp c : Thread nD τ), csem kB) 0 = _ from duties_k m ρ (xp c) kB]; exact Finset.mem_univ _)
      ((amount_k m ρ (xp c) kB true).trans (by decide)) () (debt c (owe1 all16)) rfl (W := W)) $$ [HO Ht2 HX]
  · isplitr; · iapply (ctx_inv m ρ K (xp c, kB)); iexact HC
    isplitl [HO]; · iexact HO
    isplitl [Ht2]; · iexact Ht2
    isplitl [HX]
    · rw [show (sched m ρ).payload ((xp c : Thread nD τ), csem kB) 0 true = _ from payload_k m ρ (xp c) kB true, kpay_BX]
      iexact HX
    iapply (ctx_reached m ρ K (xp c, kB)); iexact HC
  iintro HO
  iapply (Rounds.wp_wait_rest_token 𝒱₀ ER (sched m ρ) (c : Thread nD τ) none (κ := K (c, kB))
      (wpE_semWait_eq 𝒱₀ (c : Thread nD τ) none Set.univ) (Set.mem_univ _) () (O := debt c (owe1 all16)) (W := W) (R := 0) (m := 0) (T := ∅)
      (by rw [show (sched m ρ).expect ((c : Thread nD τ), csem kB) 0 = _ from expect_k m ρ c kB]; decide)) $$ [Hcr HO Hat]
  · isplitr; · iapply (ctx_inv m ρ K (c, kB)); iexact HC
    isplitl [Hcr]; · iexact Hcr
    isplitl [HO]; · iexact HO
    isplitr
    · iapply (mayWait c (csem kB) (owe1 all16) (hello_lev c)); iapply (ctx_lev m ρ K); iexact HC
    iexact Hat
  iintro ⟨HO, Hat, -, Hpay⟩
  ihave Hp := (Entails.of_eq ((rest_k m ρ c kB).trans (bar_pay m ρ c))) $$ Hpay
  icases Hp with ⟨HY, HX⟩
  imod (close_k m ρ K c kB (0 + 1) (duties_later m ρ (kcell (c, kB)))) $$ [Hat] with Hz
  · isplitr; · iexact HC
    iexact Hat
  iapply Hk
  isplitl [HO]; · iexists _; iexact HO
  isplitl [Hz]; · iexact Hz
  isplitl [HY]; · iexact HY
  iexact HX

/-! ## The loops -/

theorem all16_univ : all16.toFinset = Finset.univ := by decide
theorem all13_univ : all13.toFinset = Finset.univ := by decide

/-- A list of steps over every chunk. -/
theorem wp_all {ι : Type} [DecidableEq ι] [Fintype ι] (c : Dev nD) (p : ι → KProg F PUnit) (St : List ι → sProp 𝕄) (A B : ι → sProp 𝕄) (Q : PUnit → sProp 𝕄)
    (hstep : ∀ i l k, iprop(ctx m ρ K ∗ St (i :: l) ∗ A i) ⊢ iprop(((St l ∗ B i) -∗ wpc c k Q) -∗ wpc c (p i >>= fun _ => k) Q))
    (k : KProg F PUnit) (l : List ι) (hl : l.Nodup) (hu : l.toFinset = Finset.univ) :
    iprop(ctx m ρ K ∗ St l ∗ bigSep Finset.univ A) ⊢ iprop(((St [] ∗ bigSep Finset.univ B) -∗ wpc c k Q) -∗ wpc c (steps p l k) Q) := by
  have h := wp_list c (ctx m ρ K) p St A B Q hstep k l hl
  rw [hu] at h
  exact h

/-- The sends of the first round. -/
theorem send1_all (c : Dev nD) (k : KProg F PUnit) (Q : PUnit → sProp 𝕄) :
    iprop(ctx m ρ K ∗ Ow c (owe1 all16) ∗ bigSep Finset.univ fun i : Fin 16 => iprop(xPc m ρ c i ∗ (∃ f, r1P (F := F) (yp c) i f)
        ∗ dutyTok ER (kcell (c, kS1 i)) 0 false ∗ dutyTok ER (kcell (yp c, kR1 i)) 0 false))
      ⊢ iprop(((Ow c oweD ∗ bigSep Finset.univ fun i : Fin 16 => cred (tallyAt (kcell (c, kS1 i)) () N16)) -∗ wpc c k Q)
          -∗ wpc c (steps (send1 c) all16 k) Q) :=
  wp_all m ρ K c (send1 c) (fun l => Ow c (owe1 l)) _ _ Q (fun i l k => send1_step m ρ K c i (owe1 l) k Q) k all16 (by decide) all16_univ

/-- Receive, add and forward, over the second round's chunks. -/
theorem fwd_all (c : Dev nD) (k : KProg F PUnit) (Q : PUnit → sProp 𝕄) :
    iprop(ctx m ρ K ∗ (Ow c (owe2 all13) ∗ xL m ρ c) ∗ bigSep Finset.univ fun i : Fin 13 => iprop(
        (cred (tallyAt (kcell (c, kR1 (up i))) () N16) ∗ atPos ER (kcell (c, kR1 (up i))) 0 ∅ 0 ∗ (∃ f, aP (F := F) c (up i) f))
        ∗ (∃ f, oP (F := F) (xp c) c i f) ∗ dutyTok ER (kcell (c, kS2 i)) 0 false ∗ dutyTok ER (kcell (xp c, kR2 i)) 0 false))
      ⊢ iprop((((Ow c [] ∗ xL m ρ c) ∗ bigSep Finset.univ fun i : Fin 13 => iprop(
            (semVal (kcell (c, kR1 (up i))) 0 ∗ r1P c (up i) (landed1 m ρ c)) ∗ cred (tallyAt (kcell (c, kS2 i)) () N16))) -∗ wpc c k Q)
          -∗ wpc c (steps (fwdStep c) all13 k) Q) := by
  refine wp_all m ρ K c (fwdStep c) (fun l => iprop(Ow c (owe2 l) ∗ xL m ρ c)) _ _ Q (fun i l k => ?_) k all13 (by decide) all13_univ
  rw [show fwdStep c i >>= (fun _ => k) = addStep c (up i) >>= fun _ => send2 c i >>= fun _ => k from Prog.bind_assoc _ _ _]
  iintro ⟨#HC, ⟨HO, Hx⟩, ⟨Hcr, Hat, Ho⟩, Hd, Ht1, Ht2⟩ Hk
  iapply (add_step m ρ K c (up i) (owe2 (i :: l)) (fun e he => by
    obtain ⟨j, -, rfl⟩ := List.mem_map.mp he
    exact show 2 < 3 by decide) (send2 c i >>= fun _ => k) Q) $$ [HO Hx Hcr Hat Ho]
  · isplitr; · iexact HC
    isplitl [HO]; · iexact HO
    isplitl [Hx]; · iexact Hx
    isplitl [Hcr]; · iexact Hcr
    isplitl [Hat]; · iexact Hat
    iexact Ho
  rw [aP_up]
  iintro ⟨HO, Hx, Hz, Hr, Ho⟩
  iapply (send2_step m ρ K c i (owe2 l) k Q) $$ [HO Ho Hd Ht1 Ht2]
  · isplitr; · iexact HC
    isplitl [HO]; · iexact HO
    isplitl [Ho]; · iexact Ho
    isplitl [Hd]; · iexact Hd
    isplitl [Ht1]; · iexact Ht1
    iexact Ht2
  iintro ⟨HO, Hcr⟩
  iapply Hk
  isplitl [HO Hx]
  · isplitl [HO]; · iexact HO
    iexact Hx
  isplitl [Hz Hr]
  · isplitl [Hz]; · iexact Hz
    iexact Hr
  iexact Hcr

/-- Receive and add, over the chunks that are not forwarded. -/
theorem add_all (c : Dev nD) (k : KProg F PUnit) (Q : PUnit → sProp 𝕄) :
    iprop(ctx m ρ K ∗ (Ow c [] ∗ xL m ρ c) ∗ bigSep tail3 fun i => iprop(
        cred (tallyAt (kcell (c, kR1 i)) () N16) ∗ atPos ER (kcell (c, kR1 i)) 0 ∅ 0 ∗ (∃ f, aP (F := F) c i f)))
      ⊢ iprop((((Ow c [] ∗ xL m ρ c) ∗ bigSep tail3 fun i => iprop(semVal (kcell (c, kR1 i)) 0 ∗ r1P c i (landed1 m ρ c) ∗ aP c i (outAt m ρ c))) -∗ wpc c k Q)
          -∗ wpc c (steps (addStep c) last3 k) Q) := by
  refine wp_list c (ctx m ρ K) (addStep c) (fun _ => iprop(Ow c [] ∗ xL m ρ c)) _ _ Q (fun i l k => ?_) k last3 (by decide)
  iintro ⟨#HC, ⟨HO, Hx⟩, Hcr, Hat, Ho⟩ Hk
  iapply (add_step m ρ K c i [] (fun e he => absurd he List.not_mem_nil) k Q) $$ [HO Hx Hcr Hat Ho]
  · isplitr; · iexact HC
    isplitl [HO]; · iexact HO
    isplitl [Hx]; · iexact Hx
    isplitl [Hcr]; · iexact Hcr
    isplitl [Hat]; · iexact Hat
    iexact Ho
  iintro ⟨HO, Hx, H⟩
  iapply Hk
  isplitl [HO Hx]
  · isplitl [HO]; · iexact HO
    iexact Hx
  iexact H

/-- The waits for the second round's chunks. -/
theorem recv2_all (c : Dev nD) (k : KProg F PUnit) (Q : PUnit → sProp 𝕄) :
    iprop(ctx m ρ K ∗ Ow c [] ∗ bigSep Finset.univ fun i : Fin 13 => iprop(cred (tallyAt (kcell (c, kR2 i)) () N16) ∗ atPos ER (kcell (c, kR2 i)) 0 ∅ 0))
      ⊢ iprop(((Ow c [] ∗ bigSep Finset.univ fun i : Fin 13 => iprop(semVal (kcell (c, kR2 i)) 0 ∗ oP c (xp c) i (outAt m ρ c))) -∗ wpc c k Q)
          -∗ wpc c (steps (recv2 c) all13 k) Q) :=
  wp_all m ρ K c (recv2 c) (fun _ => Ow c []) _ _ Q (fun i _ k => recv2_step m ρ K c i k Q) k all13 (by decide) all13_univ

/-- The waits for the first round's sends to have left. -/
theorem sent1_all (c : Dev nD) (k : KProg F PUnit) (Q : PUnit → sProp 𝕄) :
    iprop(ctx m ρ K ∗ Ow c [] ∗ bigSep Finset.univ fun i : Fin 16 => iprop(cred (tallyAt (kcell (c, kS1 i)) () N16) ∗ atPos ER (kcell (c, kS1 i)) 0 ∅ 0))
      ⊢ iprop(((Ow c [] ∗ bigSep Finset.univ fun i : Fin 16 => iprop(semVal (kcell (c, kS1 i)) 0 ∗ xPc m ρ c i)) -∗ wpc c k Q)
          -∗ wpc c (steps (sent1 c) all16 k) Q) :=
  wp_all m ρ K c (sent1 c) (fun _ => Ow c []) _ _ Q (fun i _ k => sent1_step m ρ K c i k Q) k all16 (by decide) all16_univ

/-- The waits for the forwards to have left. -/
theorem sent2_all (c : Dev nD) (k : KProg F PUnit) (Q : PUnit → sProp 𝕄) :
    iprop(ctx m ρ K ∗ Ow c [] ∗ bigSep Finset.univ fun i : Fin 13 => iprop(cred (tallyAt (kcell (c, kS2 i)) () N16) ∗ atPos ER (kcell (c, kS2 i)) 0 ∅ 0))
      ⊢ iprop(((Ow c [] ∗ bigSep Finset.univ fun i : Fin 13 => iprop(semVal (kcell (c, kS2 i)) 0 ∗ oP c c i (outAt m ρ c))) -∗ wpc c k Q)
          -∗ wpc c (steps (sent2 c) all13 k) Q) :=
  wp_all m ρ K c (sent2 c) (fun _ => Ow c []) _ _ Q (fun i _ k => sent2_step m ρ K c i k Q) k all13 (by decide) all13_univ

end Cert.ScatterProof

end
-- ==== Proof.Sound.lean ====
/-
The whole body on one device, from what it is launched with to what it ends with.
-/
module

public import proofs.«01_k».proof.Proof.Body

@[expose] public section

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-! ## What a device starts with -/

theorem both_eq {α : Type} (s : Finset α) (Φ Ψ : α → sProp 𝕄) :
    bigSep s (fun i => iprop(Φ i ∗ Ψ i)) = iprop(bigSep s Φ ∗ bigSep s Ψ) := bigSep_sep s Φ Ψ

/-- Something held of every cell of a device, by the arrays and the three single cells. -/
theorem kd_split (Φ : Kd → sProp 𝕄) : bigSep Finset.univ Φ
    = iprop(((bigSep Finset.univ fun i : Fin 16 => Φ (kS1 i)) ∗ (bigSep Finset.univ fun i : Fin 16 => Φ (kR1 i))
        ∗ ((bigSep Finset.univ fun i : Fin 13 => Φ (kS2 i)) ∗ bigSep tail3 fun i => Φ (.inl (2, i)))
        ∗ ((bigSep Finset.univ fun i : Fin 13 => Φ (kR2 i)) ∗ bigSep tail3 fun i => Φ (.inl (3, i))))
      ∗ Φ kB ∗ Φ kSD ∗ Φ kRD) := by
  rw [sum_eq, bigSep_univ_prod, show (Finset.univ : Finset (Fin 4)) = insert 0 (insert 1 (insert 2 {3})) by decide,
    ins_eq (by decide), ins_eq (by decide), ins_eq (by decide), bigSep_singleton,
    show (Finset.univ : Finset (Fin 3)) = insert 0 (insert 1 {2}) by decide, ins_eq (by decide), ins_eq (by decide), bigSep_singleton,
    split13 (fun i => Φ (.inl (2, i))), split13 (fun i => Φ (.inl (3, i)))]

/-- The device whose cell of kind `k` device `c` pays with duty `d`. -/
def payer (k : Kd) (d : Bool) (c : Dev nD) : Dev nD :=
  match k with
  | .inl (a, _) => if a = 1 then yp c else if a = 3 then xp c else c
  | .inr 0 => nb d c
  | .inr 1 => c
  | .inr 2 => yp c

/-- The duties device `c` is to pay. -/
def toks (c : Dev nD) : sProp 𝕄 := bigSep Finset.univ fun k : Kd => bigSep (kduties k) fun d => dutyTok ER (kcell (payer k d c, k)) 0 d
/-- The positions of device `c`'s cells. -/
def ats (c : Dev nD) : sProp 𝕄 := bigSep Finset.univ fun k : Kd => atPos ER (kcell (c, k)) 0 ∅ 0
/-- What device `c` is owed. -/
def creds (c : Dev nD) : sProp 𝕄 :=
  iprop(cred (tallyAt (kcell (c, kB)) () 2) ∗ (bigSep Finset.univ fun i : Fin 16 => cred (tallyAt (kcell (c, kR1 i)) () N16))
    ∗ cred (tallyAt (kcell (c, kRD)) () N48) ∗ bigSep Finset.univ fun i : Fin 13 => cred (tallyAt (kcell (c, kR2 i)) () N16))
/-- Every counter of device `c` at zero. -/
def zeros (c : Dev nD) : sProp 𝕄 := bigSep Finset.univ fun k : Kd => semVal (kcell (c, k)) 0

/-- The duties, by phase. -/
theorem toks_split (c : Dev nD) : toks (F := F) c ⊢ iprop(dutyTok ER (kcell (yp c, kB)) 0 false ∗ dutyTok ER (kcell (xp c, kB)) 0 true
    ∗ (bigSep Finset.univ fun i : Fin 16 => dutyTok ER (kcell (c, kS1 i)) 0 false)
    ∗ (bigSep Finset.univ fun i : Fin 16 => dutyTok ER (kcell (yp c, kR1 i)) 0 false)
    ∗ (bigSep Finset.univ fun i : Fin 13 => dutyTok ER (kcell (c, kS2 i)) 0 false)
    ∗ (bigSep Finset.univ fun i : Fin 13 => dutyTok ER (kcell (xp c, kR2 i)) 0 false)
    ∗ dutyTok ER (kcell (c, kSD)) 0 false ∗ dutyTok ER (kcell (yp c, kRD)) 0 false) := by
  have hB : bigSep (kduties kB) (fun d => (dutyTok ER (kcell (payer kB d c, kB)) 0 d : sProp 𝕄))
      = iprop(dutyTok ER (kcell (yp c, kB)) 0 false ∗ dutyTok ER (kcell (xp c, kB)) 0 true) := by
    show bigSep (Finset.univ : Finset Bool) _ = _
    rw [show (Finset.univ : Finset Bool) = insert false {true} by decide, ins_eq (by decide), bigSep_singleton]
    rfl
  have hS1 : ∀ i : Fin 16, bigSep (kduties (kS1 i)) (fun d => (dutyTok ER (kcell (payer (kS1 i) d c, kS1 i)) 0 d : sProp 𝕄)) = dutyTok ER (kcell (c, kS1 i)) 0 false :=
    fun i => by rw [kduties_S1, bigSep_singleton]; rfl
  have hR1 : ∀ i : Fin 16, bigSep (kduties (kR1 i)) (fun d => (dutyTok ER (kcell (payer (kR1 i) d c, kR1 i)) 0 d : sProp 𝕄)) = dutyTok ER (kcell (yp c, kR1 i)) 0 false :=
    fun i => by rw [kduties_R1, bigSep_singleton]; rfl
  have hS2 : ∀ i : Fin 13, bigSep (kduties (kS2 i)) (fun d => (dutyTok ER (kcell (payer (kS2 i) d c, kS2 i)) 0 d : sProp 𝕄)) = dutyTok ER (kcell (c, kS2 i)) 0 false :=
    fun i => by rw [kduties_S2, bigSep_singleton]; rfl
  have hR2 : ∀ i : Fin 13, bigSep (kduties (kR2 i)) (fun d => (dutyTok ER (kcell (payer (kR2 i) d c, kR2 i)) 0 d : sProp 𝕄)) = dutyTok ER (kcell (xp c, kR2 i)) 0 false :=
    fun i => by rw [kduties_R2, bigSep_singleton]; rfl
  have hSD : bigSep (kduties kSD) (fun d => (dutyTok ER (kcell (payer kSD d c, kSD)) 0 d : sProp 𝕄)) = dutyTok ER (kcell (c, kSD)) 0 false := by
    rw [show kduties kSD = {false} from rfl, bigSep_singleton]; rfl
  have hRD : bigSep (kduties kRD) (fun d => (dutyTok ER (kcell (payer kRD d c, kRD)) 0 d : sProp 𝕄)) = dutyTok ER (kcell (yp c, kRD)) 0 false := by
    rw [show kduties kRD = {false} from rfl, bigSep_singleton]; rfl
  unfold toks
  rw [kd_split, hB, hSD, hRD, bigSep_congr fun i _ => hS1 i, bigSep_congr fun i _ => hR1 i, bigSep_congr fun i _ => hS2 i, bigSep_congr fun i _ => hR2 i]
  iintro ⟨⟨H1, H2, ⟨H3, -⟩, ⟨H4, -⟩⟩, ⟨H5, H6⟩, H7, H8⟩
  isplitl [H5]; · iexact H5
  isplitl [H6]; · iexact H6
  isplitl [H1]; · iexact H1
  isplitl [H2]; · iexact H2
  isplitl [H3]; · iexact H3
  isplitl [H4]; · iexact H4
  isplitl [H7]; · iexact H7
  iexact H8

/-! ## The buffers at the start -/

theorem any_one {β : Type} (Φ : β → sProp 𝕄) (f : β) : Φ f ⊢ iprop(∃ f, Φ f) := by
  iintro H; iexists f; iexact H
theorem any_of {α β : Type} (s : Finset α) (Φ : α → β → sProp 𝕄) (f : β) : (bigSep s fun i => Φ i f) ⊢ bigSep s fun i => iprop(∃ f, Φ i f) :=
  bigSep_mono fun i _ => any_one (Φ i) f

/-- The landing buffers, whatever they hold, are what the peer is handed. -/
theorem barY_intro (c : Dev nD) :
    iprop((∃ f, ((c : Thread nD τ).loc cc0_scratch0) ↦{fullShare} f) ∗ (∃ f, ((c : Thread nD τ).loc cc0_scratch1) ↦{fullShare} f)) ⊢ barY (F := F) (yp c) := by
  unfold barY
  rw [yp_yp]
  iintro ⟨⟨%f, H1⟩, ⟨%g, H2⟩⟩
  isplitl [H1]
  · ihave H := (Entails.of_eq (r1_cut c f)) $$ H1
    iapply (any_of Finset.univ (fun i f => r1P (F := F) c i f) f); iexact H
  · iexists g
    ihave H := (Entails.of_eq (rd_cut c g)) $$ H2
    iexact H

/-- The result's buffer, whatever it holds: the rows the device makes, and those the device across is handed. -/
theorem o_start (c : Dev nD) :
    iprop(∃ f, ((c : Thread nD τ).loc cc0_stg1_0) ↦{fullShare} f)
      ⊢ iprop(((bigSep Finset.univ fun i : Fin 13 => iprop(∃ f, aP (F := F) c (up i) f)) ∗ (bigSep tail3 fun i => iprop(∃ f, aP (F := F) c i f)))
        ∗ barX (F := F) (xp c) ∗ ∃ f, aD (F := F) c f) := by
  unfold barX
  rw [xp_xp]
  iintro ⟨%f, H⟩
  ihave H := (Entails.of_eq (o_cut c f)) $$ H
  icases H with ⟨H1, H2, H3⟩
  ihave H1 := (Entails.of_eq (split13 fun i => aP c i f)) $$ H1
  icases H1 with ⟨H1, H4⟩
  isplitl [H1 H4]
  · isplitl [H1]
    · iapply (any_of Finset.univ (fun i f => aP (F := F) c (up i) f) f); iexact H1
    · iapply (any_of tail3 (fun i f => aP (F := F) c i f) f); iexact H4
  isplitl [H2]
  · iapply (any_of Finset.univ (fun i f => oP (F := F) c (xp c) i f) f); iexact H2
  iexists f; iexact H3

/-! ## The buffers at the end -/

theorem r1_end (c : Dev nD) (f : (cc0_scratch0 : Ref sig .tc).ty.Contents (Elt F)) :
    iprop((bigSep Finset.univ fun i : Fin 13 => r1P c (up i) f) ∗ bigSep tail3 fun i => r1P c i f)
      ⊢ (((c : Thread nD τ).loc cc0_scratch0) ↦{fullShare} f : sProp 𝕄) :=
  Entails.of_eq ((split13 fun i => r1P c i f).symm.trans (r1_cut c f).symm)

theorem o_end (c : Dev nD) (f : (cc0_stg1_0 : Ref sig .tc).ty.Contents (Elt F)) :
    iprop(((bigSep Finset.univ fun i : Fin 13 => oP c c i f) ∗ bigSep tail3 fun i => aP c i f)
        ∗ (bigSep Finset.univ fun i : Fin 13 => oP c (xp c) i f) ∗ aD c f)
      ⊢ (((c : Thread nD τ).loc cc0_stg1_0) ↦{fullShare} f : sProp 𝕄) := by
  rw [o_cut, split13 fun i => aP c i f, bigSep_congr fun i _ => aP_up c i f]

/-- The cells that no transfer uses close as they are. -/
theorem close_unused (c : Dev nD) (a : Fin 4) (ha : 2 ≤ a.val) :
    iprop(ctx m ρ K ∗ bigSep tail3 fun i => atPos ER (kcell (c, .inl (a, i))) 0 ∅ 0)
      ⊢ |={Set.univ}=> (bigSep tail3 fun i => semVal (kcell (c, .inl (a, i))) 0 : sProp 𝕄) := by
  have h : ∀ i ∈ tail3, iprop(ctx m ρ K ∗ atPos ER (kcell (c, .inl (a, i))) 0 ∅ 0) ⊢ iprop(|={Set.univ}=> (semVal (kcell (c, .inl (a, i))) 0 : sProp 𝕄)) := by
    intro i hi
    refine close_k m ρ K c (.inl (a, i)) 0 fun r _ => ?_
    rcases Nat.eq_zero_or_pos r with rfl | hr
    · rw [duties_k]
      have h13 : ∀ i ∈ tail3, 13 ≤ i.val := by decide
      exact if_neg (by have := h13 i hi; omega)
    · exact duties_later m ρ _ r hr
  exact (bigSep_with_persistent h).trans (bigSep_fupd _ _)

/-! ## The body -/

/-- What a device's body takes: its debts, duties, positions and what it is owed, the staged block, and its other buffers
    whatever they hold. -/
def begins (c : Dev nD) : sProp 𝕄 :=
  iprop(Ow c oweAll ∗ toks (F := F) c ∗ ats (F := F) c ∗ creds (F := F) c ∗ (((c : Thread nD τ).loc cc0_stg0_0) ↦{fullShare} xstg m ρ c)
    ∗ (∃ f, ((c : Thread nD τ).loc cc0_stg1_0) ↦{fullShare} f)
    ∗ (∃ f, ((c : Thread nD τ).loc cc0_scratch0) ↦{fullShare} f) ∗ ∃ f, ((c : Thread nD τ).loc cc0_scratch1) ↦{fullShare} f)
/-- What it leaves: nothing owed, every counter at zero, the block as it was, the result's rows, and the landed rows. -/
def ends (c : Dev nD) : sProp 𝕄 :=
  iprop(Ow c [] ∗ zeros (F := F) c ∗ (((c : Thread nD τ).loc cc0_stg0_0) ↦{fullShare} xstg m ρ c)
    ∗ (((c : Thread nD τ).loc cc0_stg1_0) ↦{fullShare} outAt m ρ c)
    ∗ (((c : Thread nD τ).loc cc0_scratch0) ↦{fullShare} landed1 m ρ c) ∗ ((c : Thread nD τ).loc cc0_scratch1) ↦{fullShare} landedD m ρ c)

/-- The whole body is sound. -/
theorem sound (c : Dev nD) (Q : PUnit → sProp 𝕄) :
    iprop(ctx m ρ K ∗ begins m ρ c) ⊢ iprop((ends m ρ c -∗ |={Set.univ}=> Q ⟨⟩) -∗ wpc c loops Q) := by
  unfold begins ends ats creds zeros loops
  simp only [Prog.lift, Prog.bind_op, Prog.bind_ret, wpc, wp_deviceId]
  iintro ⟨#HC, HO, Ht, Hat, ⟨HcB, HcR1, HcRD, HcR2⟩, Hx, Ho, Hr1, Hrd⟩ Hk
  ihave Ht := (toks_split (F := F) c) $$ Ht
  icases Ht with ⟨HtBY, HtBX, HtS1, HtR1, HtS2, HtR2, HtSD, HtRD⟩
  ihave Hat := (Entails.of_eq (kd_split fun k => atPos ER (kcell (c, k)) 0 ∅ 0)) $$ Hat
  icases Hat with ⟨⟨HaS1, HaR1, ⟨HaS2, HaS2'⟩, ⟨HaR2, HaR2'⟩⟩, HaB, HaSD, HaRD⟩
  ihave HaR1 := (Entails.of_eq (split13 fun i => atPos ER (kcell (c, kR1 i)) 0 ∅ 0)) $$ HaR1
  icases HaR1 with ⟨HaR1, HaR1'⟩
  ihave HcR1 := (Entails.of_eq (split13 fun i => cred (tallyAt (kcell (c, kR1 i)) () N16))) $$ HcR1
  icases HcR1 with ⟨HcR1, HcR1'⟩
  ihave Hx := (Entails.of_eq (x_cut m ρ c)) $$ Hx
  icases Hx with ⟨HxL, ⟨HxS, HxD⟩, HxR⟩
  ihave Ho := (o_start (F := F) c) $$ Ho
  icases Ho with ⟨⟨Ho13, Ho3⟩, HoX, HoD⟩
  -- the handshake
  iapply (hello_step m ρ K c _ Q) $$ [HO Hr1 Hrd HoX HtBY HtBX HcB HaB]
  · isplitr; · iexact HC
    isplitl [HO]; · iexact HO
    isplitl [Hr1 Hrd]
    · iapply (barY_intro (F := F) c)
      isplitl [Hr1]; · iexact Hr1
      iexact Hrd
    isplitl [HoX]; · iexact HoX
    isplitl [HtBY]; · iexact HtBY
    isplitl [HtBX]; · iexact HtBX
    isplitl [HcB]; · iexact HcB
    iexact HaB
  iintro ⟨HO, HzB, HY, HX⟩
  unfold barY barX
  icases HY with ⟨HY1, HYD⟩
  -- the first round's sends
  iapply (send1_all m ρ K c _ Q) $$ [HO HxS HY1 HtS1 HtR1]
  · isplitr; · iexact HC
    isplitl [HO]; · iexact HO
    simp only [both_eq]
    isplitl [HxS]; · iexact HxS
    isplitl [HY1]; · iexact HY1
    isplitl [HtS1]; · iexact HtS1
    iexact HtR1
  iintro ⟨HO, HcS1⟩
  iapply (sendD_step m ρ K c (owe2 all13) _ Q) $$ [HO HxD HYD HtSD HtRD]
  · isplitr; · iexact HC
    isplitl [HO]; · iexact HO
    isplitl [HxD]; · iexact HxD
    isplitl [HYD]; · iexact HYD
    isplitl [HtSD]; · iexact HtSD
    iexact HtRD
  iintro ⟨HO, HcSD⟩
  -- receive, add and forward
  iapply (fwd_all m ρ K c _ Q) $$ [HO HxL HcR1 HaR1 Ho13 HX HtS2 HtR2]
  · isplitr; · iexact HC
    isplitl [HO HxL]
    · isplitl [HO]; · iexact HO
      iexact HxL
    simp only [both_eq]
    isplitl [HcR1 HaR1 Ho13]
    · isplitl [HcR1]; · iexact HcR1
      isplitl [HaR1]; · iexact HaR1
      iexact Ho13
    isplitl [HX]; · iexact HX
    isplitl [HtS2]; · iexact HtS2
    iexact HtR2
  simp only [both_eq]
  iintro ⟨⟨HO, HxL⟩, ⟨HzR1, Hr1⟩, HcS2⟩
  iapply (add_all m ρ K c _ Q) $$ [HO HxL HcR1' HaR1' Ho3]
  · isplitr; · iexact HC
    isplitl [HO HxL]
    · isplitl [HO]; · iexact HO
      iexact HxL
    simp only [both_eq]
    isplitl [HcR1']; · iexact HcR1'
    isplitl [HaR1']; · iexact HaR1'
    iexact Ho3
  simp only [both_eq]
  iintro ⟨⟨HO, HxL⟩, HzR1', Hr1', Ho3⟩
  iapply (addD_step m ρ K c _ Q) $$ [HO HxL HcRD HaRD HoD]
  · isplitr; · iexact HC
    isplitl [HO]; · iexact HO
    isplitl [HxL]; · iexact HxL
    isplitl [HcRD]; · iexact HcRD
    isplitl [HaRD]; · iexact HaRD
    iexact HoD
  iintro ⟨HO, HxL, HzRD, Hrd, HoD⟩
  -- the closing waits
  iapply (recv2_all m ρ K c _ Q) $$ [HO HcR2 HaR2]
  · isplitr; · iexact HC
    isplitl [HO]; · iexact HO
    simp only [both_eq]
    isplitl [HcR2]; · iexact HcR2
    iexact HaR2
  simp only [both_eq]
  iintro ⟨HO, HzR2, HoX⟩
  iapply (sent1_all m ρ K c _ Q) $$ [HO HcS1 HaS1]
  · isplitr; · iexact HC
    isplitl [HO]; · iexact HO
    simp only [both_eq]
    isplitl [HcS1]; · iexact HcS1
    iexact HaS1
  simp only [both_eq]
  iintro ⟨HO, HzS1, HxS⟩
  iapply (sent2_all m ρ K c _ Q) $$ [HO HcS2 HaS2]
  · isplitr; · iexact HC
    isplitl [HO]; · iexact HO
    simp only [both_eq]
    isplitl [HcS2]; · iexact HcS2
    iexact HaS2
  simp only [both_eq]
  iintro ⟨HO, HzS2, Ho13⟩
  iapply (sentD_step m ρ K c Q) $$ [HO HcSD HaSD]
  · isplitr; · iexact HC
    isplitl [HO]; · iexact HO
    isplitl [HcSD]; · iexact HcSD
    iexact HaSD
  iintro ⟨HO, HzSD, HxD⟩
  imod (close_unused m ρ K c 2 (by decide)) $$ [HaS2'] with HzS2'
  · isplitr; · iexact HC
    iexact HaS2'
  imod (close_unused m ρ K c 3 (by decide)) $$ [HaR2'] with HzR2'
  · isplitr; · iexact HC
    iexact HaR2'
  iapply Hk
  isplitl [HO]; · iexact HO
  isplitl [HzB HzR1 HzR1' HzRD HzR2 HzR2' HzS1 HzS2 HzS2' HzSD]
  · rw [kd_split, split13 fun i => semVal (kcell (c, kR1 i)) 0]
    isplitl [HzR1 HzR1' HzR2 HzR2' HzS1 HzS2 HzS2']
    · isplitl [HzS1]; · iexact HzS1
      isplitl [HzR1 HzR1']
      · isplitl [HzR1]; · iexact HzR1
        iexact HzR1'
      isplitl [HzS2 HzS2']
      · isplitl [HzS2]; · iexact HzS2
        iexact HzS2'
      isplitl [HzR2]; · iexact HzR2
      iexact HzR2'
    isplitl [HzB]; · iexact HzB
    isplitl [HzSD]; · iexact HzSD
    iexact HzRD
  isplitl [HxL HxS HxD HxR]
  · rw [x_cut]
    isplitl [HxL]; · iexact HxL
    isplitl [HxS HxD]
    · isplitl [HxS]; · iexact HxS
      iexact HxD
    iexact HxR
  isplitl [Ho13 Ho3 HoX HoD]
  · iapply (o_end c (outAt m ρ c))
    isplitl [Ho13 Ho3]
    · isplitl [Ho13]; · iexact Ho13
      iexact Ho3
    isplitl [HoX]; · iexact HoX
    iexact HoD
  isplitl [Hr1 Hr1']
  · iapply (r1_end c (landed1 m ρ c))
    isplitl [Hr1]; · iexact Hr1
    iexact Hr1'
  rw [rd_cut]
  iexact Hrd

end Cert.ScatterProof

end
-- ==== Proof.Run.lean ====
/-
The launch: what each device is dealt, the pipeline around the body, and the run of @main.
-/
module

public import proofs.«01_k».proof.Proof.Sound

@[expose] public section

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What a device's body starts from, besides its buffers and debts: at some names, the shared facts, its positions, the
    duties it pays, and what it is owed. -/
def start (c : Dev nD) : sProp 𝕄 := iprop((∃ K, ctx m ρ K ∗ ats (F := F) c ∗ toks (F := F) c) ∗ creds (F := F) c)

/-- Before the point: that, and the two landing buffers whatever they hold. -/
def Φ₀ (c : Dev nD) : sProp 𝕄 :=
  iprop(start m ρ c ∗ (∃ f, ((c : Thread nD τ).loc cc0_scratch0) ↦{fullShare} f) ∗ ∃ f, ((c : Thread nD τ).loc cc0_scratch1) ↦{fullShare} f)
/-- After it: every counter at zero, and the landed rows. -/
def Φ₁ (c : Dev nD) : sProp 𝕄 :=
  iprop(zeros (F := F) c ∗ (((c : Thread nD τ).loc cc0_scratch0) ↦{fullShare} landed1 m ρ c)
    ∗ ((c : Thread nD τ).loc cc0_scratch1) ↦{fullShare} landedD m ρ c)

/-- The pipeline's data: the arrays at launch, the staged block and the result's rows after the point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => debt c oweAll
    | ⟨_ + 1, _⟩ => 0

/-- The one point. -/
def pt : Fin cfg0.N := t0_0
theorem eq_pt (t : Fin cfg0.N) : t = pt := fin_N0 t

theorem fetch_x : (cfg0.win (0 : Fin 2)).fetch pt = true := rfl

/-- Owning a whole buffer at contents `X`. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

/-- A staging buffer of device `c` at contents `X`. -/
abbrev holds (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

/-- What the point takes. -/
def ptPre (c : Dev nD) : sProp 𝕄 :=
  iprop(Φ₀ m ρ c ∗ (dats m ρ 0 c).owesAt () pt.castSucc
    ∗ (∃ d, holds c cc0_stg0_0 ((dats m ρ 0 c).before (0 : Fin 2) pt d))
    ∗ (∃ d, holds c cc0_stg1_0 ((dats m ρ 0 c).before (1 : Fin 2) pt d)))
/-- What the point leaves. -/
def ptPost (c : Dev nD) : sProp 𝕄 :=
  iprop(Φ₁ m ρ c ∗ (dats m ρ 0 c).owesAt () pt.succ ∗ holds c cc0_stg0_0 (xstg m ρ c) ∗ holds c cc0_stg1_0 (outAt m ρ c))

/-- The point's body, from what it takes to what it leaves. -/
theorem pt_sound (c : Dev nD) : ptPre m ρ c ⊢ wpc c loops (fun _ => ptPost m ρ c) := by
  unfold ptPre Φ₀ start Dat.owesAt Pipeline.owesWithin
  rw [show (dats m ρ 0 c).owed pt.castSucc = debt c oweAll from rfl]
  iintro ⟨⟨⟨⟨%K, #HC, Hat, Ht⟩, Hcr⟩, Hr1, Hrd⟩, ⟨%W, -, HO⟩, ⟨%d0, %g0, %hg0, Hx⟩, ⟨%d1, %g1, %hg1, Ho⟩⟩
  have hx : g0 = xstg m ρ c := by rw [hg0]; unfold Dat.before; rw [if_pos fetch_x]; rfl
  subst hx
  iapply (sound m ρ K c fun _ => ptPost m ρ c) $$ [Hat Ht Hcr Hr1 Hrd HO Hx Ho]
  · isplitr; · iexact HC
    unfold begins
    isplitl [HO]; · unfold Ow; iexists W; iexact HO
    isplitl [Ht]; · iexact Ht
    isplitl [Hat]; · iexact Hat
    isplitl [Hcr]; · iexact Hcr
    isplitl [Hx]; · iexact Hx
    isplitl [Ho]; · iexists g1; iexact Ho
    isplitl [Hr1]; · iexact Hr1
    iexact Hrd
  unfold ends Ow
  iintro ⟨⟨%W', HO⟩, Hz, Hx, Ho, Hr1, Hrd⟩
  imodintro
  unfold ptPost Φ₁ Dat.owesAt Pipeline.owesWithin
  rw [show (dats m ρ 0 c).owed pt.succ = 0 from rfl]
  isplitl [Hz Hr1 Hrd]
  · isplitl [Hz]; · iexact Hz
    isplitl [Hr1]; · iexact Hr1
    iexact Hrd
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 65536 in
/-- The library's body obligation on core `c`. -/
theorem body_obligation (c : Dev nD) : BodyObligation (dats (F := F) m ρ 0 c) (defs₀ (F := F)) 𝒱₀ () Set.univ := fun t => by
  rw [eq_pt t]
  rw [bigSep_W0, bigSep_W0]
  simp only [owns_buf]
  show ptPre m ρ c ⊢ wp frame (wpE (defs₀ (F := F)) 𝒱₀ (c : Thread nD τ) none) Set.univ
    (cc0_body (F := F) xM (Memref.isWhole_whole _) oM (Memref.isWhole_whole _) r1M (Memref.isWhole_whole _) rdM
      (Memref.isWhole_whole _) cc0_scratch2 cc0_scratch3 cc0_scratch4 cc0_scratch5 cc0_scratch6 cc0_scratch7) (fun _ => ptPost m ρ c)
  rw [body_eq]
  exact pt_sound m ρ c

/-! ## What the launch deals -/

/-- The kernel's own semaphores: all but the barrier's. -/
abbrev osem : (Fin 4 × Fin 16) ⊕ Fin 2 → SemLoc sig
  | .inl p => csem (.inl p)
  | .inr 0 => csem kSD
  | .inr 1 => csem kRD

set_option maxRecDepth 16000 in
theorem ownSemFacts : Pipeline.OwnSemFacts cfg0.spec osem := by decide +kernel

theorem share_full (c : Dev nD) (w : Fin cfg0.W) : (dats m ρ 0 c).share w = fullShare := by unfold Dat.share; split <;> rfl

/-- Every cell of every device. -/
def theCells : Finset (GSem nD τ sig) := Finset.univ.map ⟨kcell, kcell_inj⟩

/-- A duty's name. -/
abbrev dutyName (x : (Dev nD × Kd) × Bool) : GSem nD τ sig × ℕ × Bool := (kcell x.1, 0, x.2)
theorem dutyName_inj : Function.Injective dutyName := by
  rintro ⟨ck, d⟩ ⟨ck', d'⟩ h
  have h1 : ck = ck' := kcell_inj (congrArg Prod.fst h)
  have h2 : d = d' := congrArg (fun y : GSem nD τ sig × ℕ × Bool => y.2.2) h
  rw [h1, h2]
/-- Every duty of every device's cells. -/
def theDuties : Finset (GSem nD τ sig × ℕ × Bool) :=
  (Finset.univ.filter fun x : (Dev nD × Kd) × Bool => x.2 ∈ kduties x.1.2).map ⟨dutyName, dutyName_inj⟩

/-- The launch element: the pipeline's, and the protocol's. -/
def u₀ : UU := (initOf (Pipeline.cells cfgs cellOf_inj) (Pipeline.launchToks cfgs cellOf_inj), initOf theCells theDuties)

/-- The duties of device `c`'s own cells. -/
def ownToks (c : Dev nD) : sProp 𝕄 := bigSep Finset.univ fun k : Kd => bigSep (kduties k) fun d => dutyTok ER (kcell (c, k)) 0 d

/-- What the launch element deals device `c`. -/
def dealt (c : Dev nD) : sProp 𝕄 :=
  iprop((bigSep Finset.univ fun k : Kd => roundState ER (sched m ρ) (kcell (c, k)) 0)
    ∗ (ats (F := F) c ∗ bigSep Finset.univ fun k : Kd => reached ER (kcell (c, k)) 0) ∗ ownToks (F := F) c)

theorem over_cells (Φ : GSem nD τ sig → sProp 𝕄) :
    bigSep theCells Φ = bigSep Finset.univ fun c : Dev nD => bigSep Finset.univ fun k : Kd => Φ (kcell (c, k)) := by
  unfold theCells; rw [bigSep_map, bigSep_univ_prod]; rfl

/-- Something held of every duty, by device, cell and duty. -/
theorem nest (Φ : Dev nD → Kd → Bool → sProp 𝕄) :
    (bigSep Finset.univ fun x : (Dev nD × Kd) × Bool => if x.2 ∈ kduties x.1.2 then Φ x.1.1 x.1.2 x.2 else BIBase.emp)
      = bigSep Finset.univ fun c : Dev nD => bigSep Finset.univ fun k : Kd => bigSep (kduties k) fun d => Φ c k d := by
  rw [bigSep_univ_prod, bigSep_univ_prod]
  refine bigSep_congr fun c _ => bigSep_congr fun k _ => ?_
  rw [show kduties k = Finset.univ.filter (fun d => d ∈ kduties k) from (Finset.filter_univ_mem _).symm, bigSep_filter]
  refine bigSep_congr fun d _ => ?_
  simp only [Finset.filter_univ_mem]
  rfl

theorem over_duties : bigSep theDuties (fun x => (dutyTok ER x.1 x.2.1 x.2.2 : sProp 𝕄)) = bigSep Finset.univ fun c : Dev nD => ownToks (F := F) c := by
  unfold theDuties
  rw [bigSep_map, bigSep_filter]
  exact nest fun c k d => dutyTok ER (kcell (c, k)) 0 d

theorem payer_payer (k : Kd) (d : Bool) (c : Dev nD) : payer k d (payer k d c) = c := by
  rcases k with ⟨a, i⟩ | k
  · unfold payer
    by_cases h1 : a = 1
    · simp only [h1, if_true]; exact yp_yp c
    · by_cases h3 : a = 3
      · simp only [h3, if_true]; exact xp_xp c
      · simp only [h1, h3, if_false]
  · fin_cases k
    · exact nb_nb d c
    · rfl
    · exact yp_yp c

/-- The exchange of duties: each to the device that pays it. -/
def exchange : (Dev nD × Kd) × Bool ≃ (Dev nD × Kd) × Bool where
  toFun x := ((payer x.1.2 x.2 x.1.1, x.1.2), x.2)
  invFun x := ((payer x.1.2 x.2 x.1.1, x.1.2), x.2)
  left_inv x := by simp only [payer_payer]
  right_inv x := by simp only [payer_payer]

/-- The duties of the cells, dealt to the devices that pay them. -/
theorem toks_around : (bigSep Finset.univ fun c : Dev nD => ownToks (F := F) c) = bigSep Finset.univ fun c : Dev nD => toks (F := F) c := by
  unfold ownToks toks
  rw [← nest fun c k d => dutyTok ER (kcell (c, k)) 0 d, ← nest fun c k d => dutyTok ER (kcell (payer k d c, k)) 0 d, bigSep_univ_equiv exchange]
  rfl

/-- The launch element is every device's share. -/
theorem deal : BI.own (ER (initOf theCells theDuties)) ⊢ (|==> bigSep Finset.univ (dealt m ρ) : sProp 𝕄) := by
  iintro HX
  imod (Rounds.fund ER (sched m ρ) theCells theDuties) $$ HX with ⟨Hst, Hr, Hat, Htok⟩
  imodintro
  ihave Hst := (Entails.of_eq (over_cells fun g => roundState ER (sched m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq (over_duties (F := F))) $$ Htok
  unfold dealt ats
  simp only [both_eq]
  isplitl [Hst]; · iexact Hst
  isplitl [Hat Hr]
  · isplitl [Hat]; · iexact Hat
    iexact Hr
  iexact Htok

theorem swap_to (A B C D : sProp 𝕄) : iprop(A ∗ B ∗ C ∗ D) ⊢ iprop((A ∗ C ∗ D) ∗ B) := by
  iintro ⟨HA, HB, HC, HD⟩
  isplitl [HA HC HD]
  · isplitl [HA]; · iexact HA
    isplitl [HC]; · iexact HC
    iexact HD
  iexact HB
theorem swap_from (A B C D : sProp 𝕄) : iprop((A ∗ C ∗ D) ∗ B) ⊢ iprop(A ∗ B ∗ C ∗ D) := by
  iintro ⟨⟨HA, HC, HD⟩, HB⟩
  isplitl [HA]; · iexact HA
  isplitl [HB]; · iexact HB
  isplitl [HC]; · iexact HC
  iexact HD
theorem swap_eq (A B C D : sProp 𝕄) : iprop(A ∗ B ∗ C ∗ D) = iprop((A ∗ C ∗ D) ∗ B) := BI.Entails.antisymm (swap_to A B C D) (swap_from A B C D)

/-- A device's counters: the kernel's own, and the barrier's. -/
theorem zeros_eq (c : Dev nD) :
    zeros (F := F) c = iprop(Pipeline.ownSems0 (Ix := Unit) (Name := ℕ) (U := UU) (Lvl := ℕ) (Val := Elt F) (τ := τ) osem c ∗ unscopedSems0 c) := by
  have hu : (unscopedSems0 c : sProp 𝕄) = semVal (kcell (c, kB)) 0 := by
    unfold unscopedSems0; rw [bigSep_eq_bigSepL_of_eq [SemLoc.reg barS] (by decide) (by decide)]; rfl
  rw [hu]
  unfold zeros Pipeline.ownSems0
  rw [sum_eq, sum_eq, show (Finset.univ : Finset (Fin 3)) = insert 0 (insert 1 {2}) by decide, ins_eq (by decide), ins_eq (by decide), bigSep_singleton,
    show (Finset.univ : Finset (Fin 2)) = insert 0 {1} by decide, ins_eq (by decide), bigSep_singleton]
  exact swap_eq _ _ _ _

end Cert.ScatterProof

end
-- ==== Proof.Main.lean ====
/-
The launch's side conditions, and the run of @main at any float values.
-/
module

public import proofs.«01_k».proof.Proof.Run
public import Idealize.ShloMosaic.Lib.Pipeline.CollectiveSegs

@[expose] public section

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The shared facts -/

/-- What a device has once the cells' invariants are shared. -/
def dealt' (c : Dev nD) : sProp 𝕄 :=
  iprop(∃ K : Dev nD × Kd → ℕ, ((bigSep Finset.univ fun ck : Dev nD × Kd => cellInv ER (sched m ρ) (K ck) (kcell ck))
    ∗ bigSep Finset.univ fun ck : Dev nD × Kd => reached ER (kcell ck) 0) ∗ ats (F := F) c ∗ toks (F := F) c)

/-- One device's cells become invariants. -/
theorem alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : Kd => iprop(∃ κ : ℕ, cellInv ER (sched m ρ) κ (kcell (c, k))))
          ∗ (ats (F := F) c ∗ bigSep Finset.univ fun k : Kd => reached ER (kcell (c, k)) 0) ∗ ownToks (F := F) c) := by
  have hi : iprop(zeros (F := F) c ∗ bigSep Finset.univ fun k : Kd => roundState ER (sched m ρ) (kcell (c, k)) 0)
      ⊢ (|={Set.univ}=> bigSep Finset.univ fun k : Kd => iprop(∃ κ : ℕ, cellInv ER (sched m ρ) κ (kcell (c, k))) : sProp 𝕄) := by
    unfold zeros
    rw [← both_eq]
    exact (bigSep_mono fun k _ => (Rounds.body_intro ER (sched m ρ) (kcell (c, k))).trans inv_alloc).trans (bigSep_fupd _ _)
  unfold dealt
  iintro ⟨Hos, Hus, Hst, Hat, Htok⟩
  ihave Hz := (Entails.of_eq (zeros_eq (F := F) c).symm) $$ [Hos Hus]
  · isplitl [Hos]; · iexact Hos
    iexact Hus
  imod hi $$ [Hz Hst] with Hinv
  · isplitl [Hz]; · iexact Hz
    iexact Hst
  imodintro
  isplitl [Hinv]; · iexact Hinv
  isplitl [Hat]; · iexact Hat
  iexact Htok

/-- The invariants of every device, shared with every device. -/
theorem share :
    (bigSep Finset.univ fun c : Dev nD => iprop((bigSep Finset.univ fun k : Kd => iprop(∃ κ : ℕ, cellInv ER (sched m ρ) κ (kcell (c, k))))
          ∗ (ats (F := F) c ∗ bigSep Finset.univ fun k : Kd => reached ER (kcell (c, k)) 0) ∗ ownToks (F := F) c) : sProp 𝕄)
      ⊢ bigSep Finset.univ (dealt' m ρ) := by
  simp only [both_eq]
  rw [← bigSep_univ_prod (fun ck : Dev nD × Kd => iprop(∃ κ : ℕ, cellInv ER (sched m ρ) κ (kcell ck))),
    ← bigSep_univ_prod (fun ck : Dev nD × Kd => (reached ER (kcell ck) 0 : sProp 𝕄)), toks_around]
  iintro ⟨HI, ⟨Hat, #HR⟩, Htok⟩
  ihave HK := (BI.bigSep_exists_pi Finset.univ (fun (ck : Dev nD × Kd) (κ : ℕ) => (cellInv ER (sched m ρ) κ (kcell ck) : sProp 𝕄))) $$ HI
  icases HK with ⟨%K, #HI⟩
  have hd : ∀ c ∈ (Finset.univ : Finset (Dev nD)), iprop(((bigSep Finset.univ fun ck : Dev nD × Kd => cellInv ER (sched m ρ) (K ck) (kcell ck))
      ∗ bigSep Finset.univ fun ck : Dev nD × Kd => reached ER (kcell ck) 0) ∗ ats (F := F) c ∗ toks (F := F) c) ⊢ dealt' m ρ c := fun c _ => by
    unfold dealt'
    iintro H; iexists K; iexact H
  iapply (bigSep_with_persistent hd)
  isplitr
  · isplitl; · iexact HI
    iexact HR
  rw [both_eq]
  isplitl [Hat]; · iexact Hat
  iexact Htok

/-- The launch's one global step. -/
theorem glob : (bigSep Finset.univ fun c => iprop(Pipeline.ownSems0 (Ix := Unit) (Name := ℕ) (U := UU) (Lvl := ℕ) (Val := Elt F) (τ := τ) osem c
      ∗ unscopedSems0 c ∗ dealt m ρ c) : sProp 𝕄) ⊢ |={Set.univ}=> bigSep Finset.univ (dealt' m ρ) :=
  ((bigSep_mono fun c _ => alloc m ρ c).trans (bigSep_fupd _ _)).trans (BI.fupd_mono (share m ρ))

/-! ## What a device is owed -/

/-- The first debt of a list, as what each device is owed for it. -/
theorem owed_cons (c : Dev nD) (e : Bool × Kd) (l : List (Bool × Kd)) :
    (Pipeline.launchCred (fun d => debt d (e :: l)) c : sProp 𝕄)
      ⊢ iprop(cred (tallyAt (kcell (c, e.2)) () (kamt e.2)) ∗ Pipeline.launchCred (fun d => debt d l) c) := by
  rw [show (fun d => debt d (e :: l)) = fun d => debt d l + tallyAt (((nb e.1 d).tc : Thread nD τ), csem e.2) () (kamt e.2) from rfl, Pipeline.launchCred_add]
  iintro ⟨H1, H2⟩
  isplitl [H2]
  · iapply (Pipeline.launchCred_tallyAt (csem e.2) (nb e.1) (nb e.1) (nb_nb e.1) (nb_nb e.1) () (kamt e.2) c); iexact H2
  iexact H1

/-- The debts over a list of chunks. -/
theorem owed_map {ι : Type} [DecidableEq ι] (c : Dev nD) (f : ι → Bool × Kd) (l : List ι) (hl : l.Nodup) (l' : List (Bool × Kd)) :
    (Pipeline.launchCred (fun d => debt d (l.map f ++ l')) c : sProp 𝕄)
      ⊢ iprop((bigSep l.toFinset fun i => cred (tallyAt (kcell (c, (f i).2)) () (kamt (f i).2))) ∗ Pipeline.launchCred (fun d => debt d l') c) := by
  induction l with
  | nil =>
    rw [List.toFinset_nil, bigSep_empty]
    iintro H
    isplitr; · iempintro
    iexact H
  | cons i l ih =>
    rw [List.toFinset_cons, ins_eq fun h => (List.nodup_cons.mp hl).1 (List.mem_toFinset.mp h)]
    rw [List.map_cons, List.cons_append]
    iintro H
    ihave H := (owed_cons (F := F) c (f i) (l.map f ++ l')) $$ H
    icases H with ⟨H1, H⟩
    ihave H := (ih (List.nodup_cons.mp hl).2) $$ H
    icases H with ⟨H2, H⟩
    isplitl [H1 H2]
    · isplitl [H1]; · iexact H1
      iexact H2
    iexact H

/-- All a device is owed. -/
theorem owed_all (c : Dev nD) : (Pipeline.launchCred (fun d => debt d oweAll) c : sProp 𝕄) ⊢ creds (F := F) c := by
  unfold creds
  iintro H
  ihave H := (owed_cons (F := F) c (false, kB) ((true, kB) :: owe1 all16)) $$ H
  icases H with ⟨HB, H⟩
  ihave H := (owed_cons (F := F) c (true, kB) (owe1 all16)) $$ H
  icases H with ⟨HB', H⟩
  ihave H := (owed_map (F := F) c (fun i => (false, kR1 i)) all16 (by decide) oweD) $$ H
  icases H with ⟨H1, H⟩
  ihave H := (owed_cons (F := F) c (false, kRD) (owe2 all13)) $$ H
  icases H with ⟨HD, H⟩
  ihave H := (Entails.of_eq (show (Pipeline.launchCred (fun d => debt d (owe2 all13)) c : sProp 𝕄) = Pipeline.launchCred (fun d => debt d (owe2 all13 ++ [])) c by
    rw [List.append_nil])) $$ H
  ihave H := (owed_map (F := F) c (fun i => (true, kR2 i)) all13 (by decide) []) $$ H
  icases H with ⟨H2, -⟩
  rw [all16_univ, all13_univ]
  isplitl [HB HB']
  · rw [show (2 : ℕ) = kamt kB + kamt kB from rfl, ← tallyAt_add]
    iapply (cred_add _ _).2
    isplitl [HB]; · iexact HB
    iexact HB'
  isplitl [H1]; · iexact H1
  isplitl [HD]; · iexact HD
  iexact H2

/-! ## The side conditions -/

theorem start_intro (c : Dev nD) :
    iprop(Pipeline.unscopedRestP Pipeline.Prefetch.none cfg0.spec c (fun b => m ((c : Thread nD τ).loc b)) ∗ levAts L lv
        ∗ Pipeline.launchCred (fun d => debt d oweAll) c ∗ prngReg c (ρ c) ∗ dealt' m ρ c)
      ⊢ |={Set.univ}=> iprop(start m ρ c ∗ emp) := by
  iintro ⟨-, Hlev, Hcr, -, HG⟩
  ihave Hc := (owed_all (F := F) c) $$ Hcr
  unfold dealt'
  icases HG with ⟨%K, ⟨HI, HR⟩, Hat, Htok⟩
  imodintro
  unfold start
  isplitl
  · isplitr [Hc]
    · iexists K
      isplitl [HI HR Hlev]
      · unfold ctx
        isplitl [HI]; · iexact HI
        isplitl [HR]; · iexact HR
        iexact Hlev
      isplitl [Hat]; · iexact Hat
      iexact Htok
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [zeros_eq]
  iintro ⟨⟨Hos, Hus⟩, Hr1, Hrd⟩
  isplitl [Hus]; · iexact Hus
  isplitl [Hos]; · iexact Hos
  isplitl [Hr1]
  · iexists (landed1 m ρ c); iexact Hr1
  iexists (landedD m ρ c); iexact Hrd

/-- The staging semaphores are none of the protocol's. -/
theorem stage_kind (w : Fin cfg0.W) (s : Fin (cfg0.win w).nbuf) : kindOf (SemLoc.dma ((cfg0.win w).sem s)) = none := by
  refine kindOf_none ?_
  fin_cases w <;> fin_cases s <;> decide +kernel

theorem all_above : ∀ e ∈ oweAll, 0 < klv e.2 := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait c _ oweAll fun e he => ?_
      rw [show lv ((c : Thread nD τ), SemLoc.dma ((cfg0.win w).sem s)) () = 0 by
        show (match kindOf (SemLoc.dma ((cfg0.win w).sem s)) with | some k => klv k | none => 0) = 0
        rw [stage_kind]]
      exact all_above e he
    · rw [show (dats m ρ 0 c).owed ⟨_ + 1, ht⟩ = 0 from rfl, MayWait_zero]
      iintro -; iempintro

/-! ## The run -/

/-- What array `w` of device `c` holds after the run. -/
def finalA (c : Dev nD) (w : Fin cfg0.W) : Buf (Elt F) ((cfg0.win w).arr.view.loc (c : Thread nD τ)) := (dats m ρ 0 c).arrAt w cfg0.N

/-- Every device's arrays hold what the run computes. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- For any float values, from any memory with zero counters, every weakly fair execution of @main on the four devices
    ends, with each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := fun d => debt d oweAll) (howed₀ := fun _ => rfl) (howedN := fun _ => rfl)
    (L := L) (lv := lv) (hL := L_of_ne) (hwaits := waits m ρ)
    (G := dealt m ρ) (G' := dealt' m ρ) (u₀ := u₀)
    (hu₀ := by
      unfold u₀
      iintro Hu
      ihave H := (ownU_pair _ _) $$ Hu
      icases H with ⟨HP, HX⟩
      imod (deal m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The block of `x` after the run is what it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.ScatterProof

end
-- ==== Proof.Value.lean ====
/-
The value: what the run leaves in the result, at exact arithmetic, is each device's block of the sum over the two
parts of the argument.
-/
module

public import proofs.«01_k».proof.Proof.Main
public import proofs.«01_k».proof.Proof.Gen.ReferenceIdeal.Run
public import Idealize.ShloMosaic.Lib.Layout
public import Idealize.ShloMosaic.Lib.IdealHost
public import Idealize.ShloMosaic.PureOps.Ideal.Laws

@[expose] public section

noncomputable section

namespace Cert.ScatterProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The result after the run -/

/-- The result after the run is the computed contents. -/
theorem finalA_o (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from flush0_1 (0 : Fin 1), if_pos rfl]
    exact View.read_write_univ _ _
  exact (Memref.read_access_unit_zero (Elt F) main_v1 (funext fun a => by fin_cases a <;> decide) (fun a => by fin_cases a <;> decide) _).symm.trans h

theorem xstg_whole (c : Dev nD) : xstg m ρ c = m ((c : Thread nD τ).loc main_arg0) :=
  Memref.read_access_unit_zero (Elt F) main_arg0 (funext fun a => by fin_cases a <;> decide) (fun a => by fin_cases a <;> decide) _

/-! ## The reference's sum -/

/-- The reference's result at an index: the two parts' sum there. -/
theorem ref_apply (w : Cert.ReferenceIdeal.S2x512x1024.Idx → EReal) (r : Fin 512) (j : Fin 1024) :
    Host.reduceAdd (F := Ideal) (φ := .f32) w (constant Cert.ReferenceIdeal.S_ .f32 0x00000000#32)
        Cert.ReferenceIdeal.Gen.reducesTo_S2x512x1024_S512x1024_d0 Cert.ReferenceIdeal.Gen.h_S_ (ix2 r j)
      = w (ix3 (0 : Fin 2) r j) + w (ix3 (1 : Fin 2) r j) := by
  have hr : Cert.ReferenceIdeal.S2x512x1024.Reduces [0] Cert.ReferenceIdeal.S512x1024 := by decide
  refine (Ideal.hostReduceAdd_single Cert.ReferenceIdeal.Gen.reducesTo_S2x512x1024_S512x1024_d0 hr w (Ideal.ofBits .f32 0x00000000#32) (ix2 r j)).trans ?_
  rw [Ideal.ofBits_zero_f32, zero_add]
  have hl (k : Fin 2) : hr.lift (ix2 r j) k = ix3 k r j := funext fun a => by
    match a with
    | ⟨0, _⟩ => rfl
    | ⟨1, _⟩ => rfl
    | ⟨2, _⟩ => rfl
  exact (Fin.sum_univ_two _).trans (congrArg₂ _ (congrArg w (hl 0)) (congrArg w (hl 1)))

/-! ## The blocks -/

section
set_option backward.proofsInPublic true
variable (m : (ℓ : Loc nD τ sig) → Buf (Elt Ideal) ℓ) (ρ : Dev nD → PrngReg) (w : Cert.ReferenceIdeal.S2x512x1024.Idx → EReal)
  (hw : ∀ c : Dev nD, m ((c : Thread nD τ).loc main_arg0) = Layout.blockN ⟨3, ![1, 512, 1024]⟩ ⟨3, ![2, 512, 1024]⟩ (Layout.meshBlock [2, 2] ![[1], [], []] c) w)
include hw

/-- Where device `c`'s block of the argument lies. -/
theorem xAt_block (c : Dev nD) (p : Fin 2) (hp : p.val = c.val % 2) (r : Fin 512) (j : Fin 1024) : xAt m ρ c r.val j.val = w (ix3 p r j) := by
  unfold xAt
  rw [xstg_whole, hw c]
  refine congrArg w (funext fun a => Fin.ext ?_)
  match a with
  | ⟨0, _⟩ =>
    show ((c.val / 1) % 2 * 1 + 0) * 1 + 0 = p.val
    omega
  | ⟨1, _⟩ =>
    show 0 * 512 + r.val % 512 = r.val
    omega
  | ⟨2, _⟩ =>
    show 0 * 1024 + j.val % 1024 = j.val
    omega

/-- The sum over a pair, of whichever device's. -/
theorem sumAt_block (c : Dev nD) (r : Fin 512) (j : Fin 512) (j' : Fin 1024) (hj : j'.val = 512 * (c.val % 2) + j.val) :
    sumAt m ρ c r.val j.val = w (ix3 (0 : Fin 2) r j') + w (ix3 (1 : Fin 2) r j') := by
  have hy := yp_col c
  show xAt m ρ c r.val (512 * (c.val % 2) + j.val) + xAt m ρ (yp c) r.val (512 * (c.val % 2) + j.val) = _
  rw [← hj]
  rcases Nat.mod_two_eq_zero_or_one c.val with h | h
  · rw [xAt_block m ρ w hw c 0 h.symm, xAt_block m ρ w hw (yp c) 1 (by rw [hy, h]; rfl)]
  · rw [xAt_block m ρ w hw c 1 h.symm, xAt_block m ρ w hw (yp c) 0 (by rw [hy, h]; rfl), add_comm]

/-- The result on device `c` is its block of the reference's result. -/
theorem outAt_block (c : Dev nD) :
    outAt m ρ c = Layout.blockN ⟨2, ![512, 512]⟩ ⟨2, ![512, 1024]⟩ (Layout.meshBlock [2, 2] ![[], [1]] c)
      (Host.reduceAdd (F := Ideal) (φ := .f32) w (constant Cert.ReferenceIdeal.S_ .f32 0x00000000#32)
        Cert.ReferenceIdeal.Gen.reducesTo_S2x512x1024_S512x1024_d0 Cert.ReferenceIdeal.Gen.h_S_) := by
  funext (i : S512x512.Idx)
  have h0 := lt2_0 i
  have h1 := lt2_1 i
  have hc := dev_lt c
  have hx := xp_col c
  let r : Fin 512 := ⟨(i 0).val, h0⟩
  let j : Fin 512 := ⟨(i 1).val, h1⟩
  let j' : Fin 1024 := ⟨512 * (c.val % 2) + (i 1).val, by omega⟩
  rw [Layout.blockN_apply]
  refine Eq.trans ?_ (Eq.trans (ref_apply w r j').symm (congrArg _ (funext fun a => Fin.ext ?_)))
  · by_cases h : (i 0).val / 256 = c.val / 2 ∨ 208 ≤ (i 0).val % 256
    · exact (outAt_own m ρ c i h).trans (sumAt_block m ρ w hw c r j j' rfl)
    · exact (outAt_other m ρ c i h).trans (sumAt_block m ρ w hw (xp c) r j j' (by rw [hx]))
  · match a with
    | ⟨0, _⟩ =>
      show (i 0).val = 0 * 512 + (i 0).val
      omega
    | ⟨1, _⟩ =>
      show 512 * (c.val % 2) + (i 1).val = ((c.val / 1) % 2 * 1 + 0) * 512 + (i 1).val
      omega

end

end Cert.ScatterProof

end
-- ==== Proof.lean ====
/- The claims of Defs.lean, from the run of the kernel on the mesh (Proof/Main.lean), the value of its result
   (Proof/Value.lean) and the generated run of the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- At any float values the kernel ends with its argument unchanged and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c (0 : Fin 2)).trans (Cert.ScatterProof.finalA_x m ρ c), h.2⟩)
    (Cert.ScatterProof.run_main (F := F) m ρ)

/-- The kernel, read at exact arithmetic, ends with its argument unchanged and every counter at zero. -/
theorem frame_ideal : Cert.quiescent_KernelIdeal := fun m ρ _ => frame_any (F := Ideal) m ρ

set_option smartUnfolding false in
/-- The kernel ends with its argument unchanged and every counter at zero: its text is the other's, at machine floats. -/
theorem frame_kernel : Cert.quiescent_Kernel := fun m ρ _ => frame_any (F := Bits) m ρ

/-- The reference ends with its argument unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its block of the reference's result. -/
theorem value : Cert.algebraic_KernelIdeal_ReferenceIdeal := fun m ρ m' ρ' _ hw =>
  ⟨_, (θ_run Cert.KernelIdeal.defs _ _).mono
      (fun _ h c => ⟨((h.1 c (1 : Fin 2)).trans (Cert.ScatterProof.finalA_o m ρ c)).trans (Cert.ScatterProof.outAt_block m ρ _ hw c),
        (h.1 c (0 : Fin 2)).trans (Cert.ScatterProof.finalA_x m ρ c)⟩)
      (Cert.ScatterProof.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, value⟩

end Cert.Proof

end
